-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![256]⟩ ⟨1, ![512]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 256]⟩ ⟨2, ![1024, 512]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256 : Shape := ⟨1, ![256]⟩
abbrev S1x256 : Shape := ⟨2, ![1, 256]⟩
abbrev S2x4x128 : Shape := ⟨3, ![2, 4, 128]⟩
abbrev S_ : Shape := ⟨0, ![]⟩
abbrev S4x128x256 : Shape := ⟨3, ![4, 128, 256]⟩
abbrev S4x128 : Shape := ⟨2, ![4, 128]⟩
abbrev S1x4x128 : Shape := ⟨3, ![1, 4, 128]⟩
abbrev S1x1x256 : Shape := ⟨3, ![1, 1, 256]⟩
abbrev S4x128x1 : Shape := ⟨3, ![4, 128, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S1x256, .f32⟩
  | .hbm, ⟨3, _⟩ => ⟨S512x256, .f32⟩
  | .local _ .vmem, ⟨0, _⟩ => ⟨S512x256, .f32⟩
  | .local _ .vmem, ⟨1, _⟩ => ⟨S1x256, .f32⟩
  | .local _ .vmem, ⟨2, _⟩ => ⟨S512x256, .f32⟩
  | .local _ .vmem, ⟨3, _⟩ => ⟨S2x4x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v20 : BitVec 32 := Scalar.muli v2 c2_i32_13
  let v21 : BitVec 32 := Scalar.addi c0_i32_14 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v22 : BitVec 32 := Scalar.muli v6 c1_i32_15
  let v23 : BitVec 32 := Scalar.addi v21 v22
  v23.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdeal.Slots.lean ====
/-
  The scratch buffer of the kernel is two slots of 4x128 sums. Slot 0 is the device's own, slot 1 is where the
  neighbour's sums land. This file names the two slots, cuts the ownership of the buffer along them, and says what is
  read from slot 1 once slot 0 of another device has been copied over it.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.FrameBody
public import Idealize.ShloMosaic.Lib.ReshapeSlab
public import Idealize.ShloMosaic.Lib.Tactic

@[expose] public section

noncomputable section

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Two independent copies of the round algebra: one for the staging transfers, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The two slots -/

abbrev scrM : Memref sig .tc .vmem S2x4x128 .f32 := Memref.whole cc0_scratch0

/-- The box of slot 0 and the box of slot 1. -/
abbrev box0 : Rect S2x4x128 := Rect.unit (s := S2x4x128) ![0, 0, 0] S1x4x128.size inb_S2x4x128_S1x4x128_0_0_0
abbrev box1 : Rect S2x4x128 := Rect.unit (s := S2x4x128) ![1, 0, 0] S1x4x128.size inb_S2x4x128_S1x4x128_1_0_0

/-- The slots as the transfer sees them: 4x128 arrays. -/
abbrev mine : Memref sig .tc .vmem S4x128 .f32 := (scrM.slice box0 (fun _ => rfl)).squeeze S4x128 squeezes_S1x4x128_S4x128
abbrev theirs : Memref sig .tc .vmem S4x128 .f32 := (scrM.slice box1 (fun _ => rfl)).squeeze S4x128 squeezes_S1x4x128_S4x128

/-- The contents of the scratch buffer. -/
abbrev Scr (F : FTy → Type) : Type := (cc0_scratch0 : Ref sig .tc).ty.Contents (Elt F)

/-- What the kernel's loads of the two slots read. -/
abbrev read0 (f : Scr F) : Vec F S1x4x128 .f32 := scrM.view.readAt (Elt F) box0.toLoadRect f
abbrev read1 (f : Scr F) : Vec F S1x4x128 .f32 := scrM.view.readAt (Elt F) box1.toLoadRect f

theorem mine_set : (mine : Memref sig .tc .vmem S4x128 .f32).view.set = box0.set :=
  (View.set_reshape _ _).trans (View.set_slice_whole _ _)

theorem theirs_set : (theirs : Memref sig .tc .vmem S4x128 .f32).view.set = box1.set :=
  (View.set_reshape _ _).trans (View.set_slice_whole _ _)

theorem access0_set : (scrM.access box0).set = box0.set := View.set_slice_whole _ _

theorem boxes_disjoint : Disjoint box0.set box1.set :=
  LoadRect.disjoint_of_separated box0.toLoadRect box1.toLoadRect (0 : Fin 3) (by decide)

/-- Every element of the buffer is in one of the slots. -/
theorem boxes_cover : box0.set ∪ box1.set = (Finset.univ : Finset S2x4x128.Idx) := by
  ext i
  simp only [Finset.mem_union, Finset.mem_univ, iff_true]
  have h0 : (i 0 : ℕ) < 2 := (i 0).isLt
  have h1 : (i 1 : ℕ) < 4 := (i 1).isLt
  have h2 : (i 2 : ℕ) < 128 := (i 2).isLt
  rcases Nat.lt_or_ge (i 0 : ℕ) 1 with h | h
  · refine .inl (box0.toLoadRect.mem_set.mpr fun a => ?_)
    match a with
    | 0 => exact ⟨0, by decide, by show (i 0 : ℕ) = 0 + 1 * 0; omega⟩
    | 1 => exact ⟨i 1, h1, by show (i 1 : ℕ) = 0 + 1 * (i 1 : ℕ); omega⟩
    | 2 => exact ⟨i 2, h2, by show (i 2 : ℕ) = 0 + 1 * (i 2 : ℕ); omega⟩
  · refine .inr (box1.toLoadRect.mem_set.mpr fun a => ?_)
    match a with
    | 0 => exact ⟨0, by decide, by show (i 0 : ℕ) = 1 + 1 * 0; omega⟩
    | 1 => exact ⟨i 1, h1, by show (i 1 : ℕ) = 0 + 1 * (i 1 : ℕ); omega⟩
    | 2 => exact ⟨i 2, h2, by show (i 2 : ℕ) = 0 + 1 * (i 2 : ℕ); omega⟩

/-! ## Ownership of a slot -/

/-- Slot 0 of device `c`, and slot 1, each owned at the buffer's contents `f`. -/
abbrev own0 (c : Dev nD) (f : Scr F) : sProp 𝕄 :=
  (mine : Memref sig .tc .vmem S4x128 .f32).view.loc (c : Thread nD τ) ↦[(mine : Memref sig .tc .vmem S4x128 .f32).view.set]{fullShare} f
abbrev own1 (c : Dev nD) (f : Scr F) : sProp 𝕄 :=
  (theirs : Memref sig .tc .vmem S4x128 .f32).view.loc (c : Thread nD τ) ↦[(theirs : Memref sig .tc .vmem S4x128 .f32).view.set]{fullShare} f

/-- The whole scratch buffer at contents not chosen. -/
abbrev scrAny (c : Dev nD) : sProp 𝕄 :=
  iprop(∃ f : Buf (Elt F) ((c : Thread nD τ).loc cc0_scratch0), ((c : Thread nD τ).loc cc0_scratch0) ↦{fullShare} f)

/-- The buffer falls apart into its slots. -/
theorem scr_cut (c : Dev nD) (f : Scr F) :
    (((c : Thread nD τ).loc cc0_scratch0 ↦{fullShare} f) : sProp 𝕄) ⊢ iprop(own0 c f ∗ own1 c f) := by
  unfold own0 own1
  rw [mine_set, theirs_set]
  refine Entails.trans (Entails.of_eq ?_) (pointsTo_union boxes_disjoint).1
  rw [boxes_cover]

/-- The two slots, at whatever contents, make the buffer again. -/
theorem scr_paste (c : Dev nD) (f g : Scr F) : iprop(own0 c f ∗ own1 c g) ⊢ (scrAny c : sProp 𝕄) := by
  unfold own0 own1
  rw [mine_set, theirs_set]
  refine (pointsTo_join boxes_disjoint).trans ?_
  rw [boxes_cover]
  iintro H
  iexists _
  iexact H

/-! ## Contents -/

/-- A slot read as a 1x4x128 box is the slot read as a 4x128 array, under the one numbering of its elements. -/
theorem read0_of_mine (f : Scr F) (i : S1x4x128.Idx) :
    read0 f i = (mine : Memref sig .tc .vmem S4x128 .f32).view.read (Elt F) f
      ((Shape.reshapeEquiv squeezes_S1x4x128_S4x128.numel_eq).symm i) := by
  show (scrM.view.slice box0).read (Elt F) f i = (scrM.view.slice box0).read (Elt F) f
    (Shape.reshapeEquiv squeezes_S1x4x128_S4x128.numel_eq ((Shape.reshapeEquiv squeezes_S1x4x128_S4x128.numel_eq).symm i))
  rw [Equiv.apply_symm_apply]

theorem read1_of_theirs (f : Scr F) (i : S1x4x128.Idx) :
    read1 f i = (theirs : Memref sig .tc .vmem S4x128 .f32).view.read (Elt F) f
      ((Shape.reshapeEquiv squeezes_S1x4x128_S4x128.numel_eq).symm i) := by
  show (scrM.view.slice box1).read (Elt F) f i = (scrM.view.slice box1).read (Elt F) f
    (Shape.reshapeEquiv squeezes_S1x4x128_S4x128.numel_eq ((Shape.reshapeEquiv squeezes_S1x4x128_S4x128.numel_eq).symm i))
  rw [Equiv.apply_symm_apply]

/-- After the copy of slot 0 at contents `fs` over slot 1, slot 1 reads what slot 0 read. -/
theorem read1_copied (fd fs : Scr F) :
    read1 ((theirs : Memref sig .tc .vmem S4x128 .f32).view.write (Elt F) fd
      ((mine : Memref sig .tc .vmem S4x128 .f32).view.read (Elt F) fs) Finset.univ) = read0 fs := by
  funext i
  rw [read1_of_theirs, read0_of_mine, View.read_write_univ]

/-- After the store of `w` in slot 0, slot 0 reads `w`. -/
theorem read0_stored (f : Scr F) (w : Vec F S1x4x128 .f32) :
    read0 ((scrM.access box0).write (Elt F) f w Finset.univ) = w :=
  View.read_write_univ _ _

end Cert.KernelIdeal.Halves

end
-- ==== Proof.KernelIdeal.Exchange.lean ====
/-
  The exchange of the row sums between the two devices of a mesh row, as a schedule of rounds.

  Each device has three cells: its barrier counter, the counter of its outgoing copy, the counter of its incoming copy.
  On each cell one thing happens, in round 0: the neighbour raises the barrier counter by one and with it hands over its
  own slot 1; the device's copy, when it has been read out, gives slot 0 back; the neighbour's copy, when it has landed,
  gives slot 1 back, now holding the neighbour's sums.
-/
module

public import proofs.«01_k».proof.Proof.KernelIdeal.Slots

@[expose] public section

noncomputable section

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The neighbour -/

/-- The device beside `c` in its mesh row: `(i, j)` and `(i, 1 - j)` are neighbours. -/
def nbr (c : Dev nD) : Dev nD := ⟨(2 * (c.val / 2) + 1) - c.val % 2, by have h : c.val < 4 := c.isLt; show _ < 4; omega⟩

theorem nbr_nbr (c : Dev nD) : nbr (nbr c) = c := by revert c; decide

def swap : Dev nD ≃ Dev nD := ⟨nbr, nbr, nbr_nbr, nbr_nbr⟩

/-- Both device ids the kernel computes are the neighbour's. -/
theorem dev1_nbr (c : Dev nD) : (⟨k0_dev1 c, k0_dev1_lt c⟩ : Dev nD) = nbr c := Fin.ext (k0_dev1_eq c)
theorem dev2_nbr (c : Dev nD) : (⟨k0_dev2 c, k0_dev2_lt c⟩ : Dev nD) = nbr c := Fin.ext (k0_dev2_eq c)

/-! ## The cells -/

abbrev sendS : DmaSem sig := 3
abbrev recvS : DmaSem sig := 4

abbrev barL : SemLoc sig := .reg barrier0
abbrev sendL : SemLoc sig := .dma sendS
abbrev recvL : SemLoc sig := .dma recvS

abbrev barCell (c : Dev nD) : GSem nD τ sig := ((c : Thread nD τ), barL)
abbrev sendCell (c : Dev nD) : GSem nD τ sig := ((c : Thread nD τ), sendL)
abbrev recvCell (c : Dev nD) : GSem nD τ sig := ((c : Thread nD τ), recvL)

/-- What a completed copy adds to a counter. -/
abbrev N : ℕ := (theirs : Memref sig .tc .vmem S4x128 .f32).view.dmaCredit
theorem N_pos : 0 < N := View.dmaCredit_pos _ (by decide)

theorem send_ne_bar : sendL ≠ barL := nofun
theorem recv_ne_bar : recvL ≠ barL := nofun
theorem send_ne_recv : sendL ≠ recvL := by decide

/-! ## What is handed over -/

variable (x : Dev nD → Vec F S512x256 .f32)

/-- The sums of squares of the rows of device `c`'s block. -/
abbrev sums (c : Dev nD) : Vec F S1x4x128 .f32 := k0_pay2 (x c)

/-- With the barrier unit: the neighbour's slot 1, and that its incoming copy may start. -/
def barPay (c : Dev nD) : sProp 𝕄 := iprop((∃ f, own1 (nbr c) f) ∗ reached ER (recvCell (nbr c)) 0)
/-- With the outgoing copy: slot 0 back, still holding the device's sums. -/
def sendPay (c : Dev nD) : sProp 𝕄 := iprop(∃ f : Scr F, ⌜read0 f = sums x c⌝ ∗ own0 c f)
/-- With the incoming copy: slot 1 back, holding the neighbour's sums. -/
def recvPay (c : Dev nD) : sProp 𝕄 := iprop(∃ f : Scr F, ⌜read1 f = sums x (nbr c)⌝ ∗ own1 c f)

/-- The semaphores of the exchange. -/
abbrev exSems : Finset (SemLoc sig) := {barL, sendL, recvL}

/-- What comes with a raise of semaphore `sm` of device `c`. -/
def handed (c : Dev nD) (sm : SemLoc sig) : sProp 𝕄 :=
  if sm = barL then barPay c else if sm = sendL then sendPay x c else if sm = recvL then recvPay x c else iprop(emp)

instance handed_storable (c : Dev nD) (sm : SemLoc sig) : BI.Storable (upEmb : UEmb _ 𝕄) (handed x c sm) := by
  unfold handed barPay sendPay recvPay
  (repeat' split) <;> infer_instance

/-- What a raise of semaphore `sm` adds to it: one unit at the barrier, a copy's credit elsewhere. -/
def price (sm : SemLoc sig) : ℕ := if sm = barL then 1 else N

theorem price_bar : price barL = 1 := by unfold price; exact if_pos rfl
theorem price_other {sm : SemLoc sig} (h : sm ≠ barL) : price sm = N := by unfold price; exact if_neg h

theorem price_pos (sm : SemLoc sig) : 0 < price sm := by
  by_cases h : sm = barL
  · rw [h, price_bar]; exact Nat.one_pos
  · rw [price_other h]; exact N_pos

/-- One raise of each of the three semaphores of every device, all in round 0. -/
def plan : Rounds.Schedule (GSem nD τ sig) Unit 𝕄 where
  duties g r := if (r = 0 ∧ g.1.2 = .tc) ∧ g.2 ∈ exSems then {()} else ∅
  unitless _ := False
  amount g _ _ := price g.2
  payload g _ _ := handed x g.1.1 g.2
  amount_pos g _ _ _ := price_pos g.2

instance plan_storable (g : GSem nD τ sig) (r : ℕ) (d : Unit) :
    BI.Storable (upEmb : UEmb _ 𝕄) ((plan x).payload g r d) := handed_storable x g.1.1 g.2

section Facts

variable (c : Dev nD)

theorem plan_duties {sm : SemLoc sig} (h : sm ∈ exSems) : (plan x).duties ((c : Thread nD τ), sm) 0 = {()} :=
  if_pos ⟨⟨rfl, rfl⟩, h⟩

theorem plan_mem {sm : SemLoc sig} (h : sm ∈ exSems) : () ∈ (plan x).duties ((c : Thread nD τ), sm) 0 := by
  rw [plan_duties x c h]; exact Finset.mem_singleton_self _

theorem plan_over (g : GSem nD τ sig) : ∀ r, 1 ≤ r → (plan x).duties g r = ∅ :=
  fun r hr => if_neg fun h => absurd h.1.1 (by omega)

theorem bar_in : barL ∈ exSems := by decide
theorem send_in : sendL ∈ exSems := by decide
theorem recv_in : recvL ∈ exSems := by decide

theorem amount_bar (u : Unit) : (plan x).amount (barCell c) 0 u = 1 := price_bar
theorem amount_send (u : Unit) : (plan x).amount (sendCell c) 0 u = N := price_other send_ne_bar
theorem amount_recv (u : Unit) : (plan x).amount (recvCell c) 0 u = N := price_other recv_ne_bar

theorem plan_expect {sm : SemLoc sig} {n : ℕ} (h : sm ∈ exSems) (hn : (plan x).amount ((c : Thread nD τ), sm) 0 () = n) :
    (plan x).expect ((c : Thread nD τ), sm) 0 = n := by
  unfold Schedule.expect Schedule.amountOf
  rw [plan_duties x c h, Finset.sum_singleton, hn]

theorem handed_bar : handed x c barL = (barPay c : sProp 𝕄) := if_pos rfl
theorem handed_send : handed x c sendL = (sendPay x c : sProp 𝕄) := (if_neg send_ne_bar).trans (if_pos rfl)
theorem handed_recv : handed x c recvL = (recvPay x c : sProp 𝕄) :=
  (if_neg recv_ne_bar).trans ((if_neg send_ne_recv.symm).trans (if_pos rfl))

theorem payload_bar (u : Unit) : (plan x).payload (barCell c) 0 u = barPay c := handed_bar x c
theorem payload_send (u : Unit) : (plan x).payload (sendCell c) 0 u = sendPay x c := handed_send x c
theorem payload_recv (u : Unit) : (plan x).payload (recvCell c) 0 u = recvPay x c := handed_recv x c

/-- A whole round of a cell of the exchange delivers what its one raise hands over. -/
theorem plan_round {sm : SemLoc sig} (h : sm ∈ exSems) :
    bigSep ((plan x).duties ((c : Thread nD τ), sm) 0 \ ∅) (fun u => (plan x).payload ((c : Thread nD τ), sm) 0 u)
      = (handed x c sm : sProp 𝕄) := by
  rw [Finset.sdiff_empty, plan_duties x c h, bigSep_singleton]
  rfl

end Facts

/-! ## What a device owes, and the order of waiting -/

/-- At the start a device owes its neighbour one barrier unit and one copy. -/
def owed0 (c : Dev nD) : CellTallies nD τ sig Unit := tallyAt (recvCell (nbr c)) () N + tallyAt (barCell (nbr c)) () 1

def L (g : GSem nD τ sig) : Finset Unit := if g.1.2 = .tc then {()} else ∅

/-- Incoming copies above barriers, barriers above everything else. -/
def lv (g : GSem nD τ sig) (_ : Unit) : ℕ := if g.2 = recvL then 2 else if g.2 = barL then 1 else 0

theorem L_off (g : GSem nD τ sig) (h : g.1.2 ≠ .tc) : L g = ∅ := if_neg h
theorem L_tc (c : Dev nD) (sm : SemLoc sig) : L ((c : Thread nD τ), sm) = {()} := if_pos rfl

theorem lv_recv (c : Dev nD) : lv (recvCell c) () = 2 := if_pos rfl
theorem lv_bar (c : Dev nD) : lv (barCell c) () = 1 := (if_neg recv_ne_bar.symm).trans (if_pos rfl)

theorem tally_pos {g g' : GSem nD τ sig} {n : ℕ} {u : Unit} (h : 0 < (tallyAt g () n : CellTallies nD τ sig Unit) g' u) : g' = g := by
  rw [tallyAt_apply] at h
  by_contra hne
  rw [if_neg fun e => hne e.1] at h
  exact absurd h (Nat.lt_irrefl 0)

/-- A device that still owes the copy may wait at its barrier. -/
theorem wait_bar (c : Dev nD) :
    (levAts L lv : sProp 𝕄) ⊢ MayWait (c : Thread nD τ) barL () (tallyAt (recvCell (nbr c)) () N) :=
  MayOwe.of_cut (L := L) (lev := lv) 1
    (fun p hp => by rw [Finset.mem_singleton.mp hp, L_tc]; exact Finset.mem_singleton_self _)
    (fun g u hg => by rw [tally_pos hg, L_tc]; exact Finset.mem_singleton_self _)
    (fun p hp => by rw [Finset.mem_singleton.mp hp]; exact (lv_bar c).le)
    (fun g u hg => by rw [tally_pos hg, show u = () from rfl, lv_recv]; decide)

/-! ## The exchange's ghost state -/

/-- The five cells device `c` touches: its own three, and its neighbour's barrier and incoming cell. -/
def known (K : GSem nD τ sig → ℕ) (c : Dev nD) : sProp 𝕄 :=
  iprop(cellInv ER (plan x) (K (barCell c)) (barCell c)
    ∗ cellInv ER (plan x) (K (sendCell c)) (sendCell c)
    ∗ cellInv ER (plan x) (K (recvCell c)) (recvCell c)
    ∗ cellInv ER (plan x) (K (barCell (nbr c))) (barCell (nbr c))
    ∗ cellInv ER (plan x) (K (recvCell (nbr c))) (recvCell (nbr c)))

instance known_persistent (K : GSem nD τ sig → ℕ) (c : Dev nD) : BI.Persistent (known x K c) := by unfold known; infer_instance

/-- The right to raise: the neighbour's barrier, the neighbour's incoming cell, the own outgoing cell. -/
def rights (c : Dev nD) : sProp 𝕄 :=
  iprop(dutyTok ER (barCell (nbr c)) 0 () ∗ dutyTok ER (recvCell (nbr c)) 0 () ∗ dutyTok ER (sendCell c) 0 ())

/-- From the launch to the kernel: the barrier cell is in use, the two copy cells are not yet. -/
def asleep (K : GSem nD τ sig → ℕ) (c : Dev nD) : sProp 𝕄 :=
  iprop(known x K c ∗ (atPos ER (barCell c) 0 ∅ 0 ∗ openTok ER (sendCell c) ∗ openTok ER (recvCell c))
    ∗ reached ER (barCell (nbr c)) 0 ∗ rights c)

/-- In the kernel: all three cells in use, each at the start of round 0. -/
def awake (K : GSem nD τ sig → ℕ) (c : Dev nD) : sProp 𝕄 :=
  iprop(known x K c ∗ (atPos ER (barCell c) 0 ∅ 0 ∗ atPos ER (sendCell c) 0 ∅ 0 ∗ atPos ER (recvCell c) 0 ∅ 0)
    ∗ (reached ER (barCell (nbr c)) 0 ∗ reached ER (sendCell c) 0 ∗ reached ER (recvCell c) 0) ∗ rights c)

/-- The two credits the device's waits on its neighbour spend. -/
def credits (c : Dev nD) : sProp 𝕄 := iprop(cred (tallyAt (barCell c) () 1) ∗ cred (tallyAt (recvCell c) () N))

/-- Past its round, a cell gives its counter back, at zero. -/
theorem finish (κ : ℕ) (g : GSem nD τ sig) :
    iprop(cellInv ER (plan x) κ g ∗ atPos ER g (0 + 1) ∅ 0) ⊢ (|={Set.univ}=> semVal g 0 : sProp 𝕄) :=
  Rounds.cell_close ER (plan x) (Set.mem_univ κ) id (plan_over x g)

end Cert.KernelIdeal.Halves

end
-- ==== Proof.KernelIdeal.Body.lean ====
/-
  One run of the kernel body: from the exchange at its start, the staged block and scales and the scratch buffer, to the
  exchange finished and the result block staged.
-/
module

public import proofs.«01_k».proof.Proof.KernelIdeal.Exchange

@[expose] public section

noncomputable section

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (x : Dev nD → Vec F S512x256 .f32) (g : Dev nD → Vec F S1x256 .f32)

/-- The block device `c` computes: its own block scaled, the row sums its own and its neighbour's. -/
def outBlk (c : Dev nD) : Vec F S512x256 .f32 := k0_pay3 (k0_pay1 (x c)) (g c) (sums x c) (sums x (nbr c))

abbrev xM : Memref sig .tc .vmem S512x256 .f32 := Memref.whole cc0_stg0_0
abbrev gM : Memref sig .tc .vmem S1x256 .f32 := Memref.whole cc0_stg1_0
abbrev oM : Memref sig .tc .vmem S512x256 .f32 := Memref.whole cc0_stg2_0

/-- A whole TensorCore buffer of device `c` at contents `f`. -/
abbrev whole (c : Dev nD) (b : Ref sig .tc) (f : b.ty.Contents (Elt F)) : sProp 𝕄 := ((c : Thread nD τ).loc b) ↦{fullShare} f

/-! ## The accesses of the body -/

theorem offs_zero : (![0, 0] : Fin 2 → Nat) = fun _ => 0 := funext fun a => by fin_cases a <;> rfl

abbrev boxX : Rect S512x256 := Rect.unit (s := S512x256) ![0, 0] S512x256.size inb_S512x256_S512x256_0_0
abbrev boxG : Rect S1x256 := Rect.unit (s := S1x256) ![0, 0] S1x256.size inb_S1x256_S1x256_0_0

theorem read_x (f : (cc0_stg0_0 : Ref sig .tc).ty.Contents (Elt F)) :
    (xM : Memref sig .tc .vmem S512x256 .f32).view.readAt (Elt F) boxX.toLoadRect f = f :=
  Memref.readAt_unit_zero (Elt F) cc0_stg0_0 offs_zero _ f

theorem read_g (f : (cc0_stg1_0 : Ref sig .tc).ty.Contents (Elt F)) :
    (gM : Memref sig .tc .vmem S1x256 .f32).view.readAt (Elt F) boxG.toLoadRect f = f :=
  Memref.readAt_unit_zero (Elt F) cc0_stg1_0 offs_zero _ f

theorem write_o (f w : (cc0_stg2_0 : Ref sig .tc).ty.Contents (Elt F)) :
    ((oM : Memref sig .tc .vmem S512x256 .f32).access boxX : View sig .tc _ _ _).write (Elt F) f w Finset.univ = w :=
  Memref.write_access_unit_zero_univ (Elt F) cc0_stg2_0 offs_zero _ f w

theorem loads0 : (scrM : Memref sig .tc .vmem S2x4x128 .f32).view.setOn box0.toLoadRect.set = box0.set := Finset.map_refl
theorem loads1 : (scrM : Memref sig .tc .vmem S2x4x128 .f32).view.setOn box1.toLoadRect.set = box1.set := Finset.map_refl

section Steps

variable {α : Type}

/-- A load of slot 0, owning slot 0. -/
theorem step_load0 (c : Dev nD) (f : Scr F) {hl : (scrM : Memref sig .tc .vmem S2x4x128 .f32).view.LoadsAt box0.toLoadRect}
    {k : Vec F S1x4x128 .f32 → Prog (TpuEff nD τ sig (Elt F) Λ₀ .tc) α} {Q : α → sProp 𝕄} :
    own0 c f ⊢ iprop((own0 c f -∗ wp frame (wpE (defs₀ (F := F)) 𝒱₀ (c : Thread nD τ) none) Set.univ (k (read0 f)) Q)
      -∗ wp frame (wpE (defs₀ (F := F)) 𝒱₀ (c : Thread nD τ) none) Set.univ (.op (.load scrM box0.toLoadRect hl) k) Q) := by
  unfold own0
  exact wp_load 𝒱₀ (c : Thread nD τ) none Set.univ (m := scrM) (r := box0.toLoadRect)
    (by rw [mine_set, loads0])

/-- A load of slot 1, owning slot 1. -/
theorem step_load1 (c : Dev nD) (f : Scr F) {hl : (scrM : Memref sig .tc .vmem S2x4x128 .f32).view.LoadsAt box1.toLoadRect}
    {k : Vec F S1x4x128 .f32 → Prog (TpuEff nD τ sig (Elt F) Λ₀ .tc) α} {Q : α → sProp 𝕄} :
    own1 c f ⊢ iprop((own1 c f -∗ wp frame (wpE (defs₀ (F := F)) 𝒱₀ (c : Thread nD τ) none) Set.univ (k (read1 f)) Q)
      -∗ wp frame (wpE (defs₀ (F := F)) 𝒱₀ (c : Thread nD τ) none) Set.univ (.op (.load scrM box1.toLoadRect hl) k) Q) := by
  unfold own1
  exact wp_load 𝒱₀ (c : Thread nD τ) none Set.univ (m := scrM) (r := box1.toLoadRect)
    (by rw [theirs_set, loads1])

/-- A store of `w` in slot 0, owning slot 0: afterwards it reads `w`. -/
theorem step_store0 (c : Dev nD) (f : Scr F) (w : Vec F S1x4x128 .f32) {hx : (scrM.access box0).Stores Finset.univ}
    {hm : (Finset.univ : Finset box0.shape.Idx) = Finset.univ ∨ ∀ a, box0.stride a = 1}
    {k : PUnit → Prog (TpuEff nD τ sig (Elt F) Λ₀ .tc) α} {Q : α → sProp 𝕄} :
    own0 c f ⊢ iprop(((∃ f' : Scr F, ⌜read0 f' = w⌝ ∗ own0 c f')
        -∗ wp frame (wpE (defs₀ (F := F)) 𝒱₀ (c : Thread nD τ) none) Set.univ (k ⟨⟩) Q)
      -∗ wp frame (wpE (defs₀ (F := F)) 𝒱₀ (c : Thread nD τ) none) Set.univ (.op (.store scrM box0 w Finset.univ hx hm) k) Q) := by
  have step : own0 c f ⊢ iprop((own0 c ((scrM.access box0).write (Elt F) f w Finset.univ)
        -∗ wp frame (wpE (defs₀ (F := F)) 𝒱₀ (c : Thread nD τ) none) Set.univ (k ⟨⟩) Q)
      -∗ wp frame (wpE (defs₀ (F := F)) 𝒱₀ (c : Thread nD τ) none) Set.univ (.op (.store scrM box0 w Finset.univ hx hm) k) Q) :=
    wp_store 𝒱₀ (c : Thread nD τ) none Set.univ (m := scrM) (r := box0) (Mk := Finset.univ)
      (S := (mine : Memref sig .tc .vmem S4x128 .f32).view.set) (by rw [View.setOn_univ, mine_set, access0_set])
  refine step.trans ?_
  iintro Hstep Hk
  iapply Hstep
  iintro H
  iapply Hk
  iexists ((scrM.access box0).write (Elt F) f w Finset.univ)
  isplitr
  · ipureintro; exact read0_stored f w
  iexact H

/-- Slot 0 reading the device's sums is what the outgoing copy hands back. -/
theorem give_send (c : Dev nD) (f : Scr F) (hf : read0 f = sums x c) : own0 c f ⊢ (plan x).payload (sendCell c) 0 () := by
  rw [payload_send]
  unfold sendPay
  iintro H
  iexists f
  isplitr
  · ipureintro; exact hf
  iexact H

/-- The neighbour's slot 1 written over with slot 0 is what the incoming copy hands it. -/
theorem give_recv (c : Dev nD) (f fd : Scr F) (hf : read0 f = sums x c) :
    own1 (nbr c) ((theirs : Memref sig .tc .vmem S4x128 .f32).view.write (Elt F) fd
      ((mine : Memref sig .tc .vmem S4x128 .f32).view.read (Elt F) f) Finset.univ) ⊢ (plan x).payload (recvCell (nbr c)) 0 () := by
  rw [payload_recv]
  unfold recvPay
  rw [nbr_nbr]
  iintro H
  iexists _
  isplitr
  · ipureintro; exact (read1_copied fd f).trans hf
  iexact H

/-- The copy of slot 0 over the neighbour's slot 1: it pays the own outgoing duty with slot 0, the neighbour's incoming duty
    with its slot 1, now reading what slot 0 read. -/
theorem step_copy (K : GSem nD τ sig → ℕ) (c n : Dev nD) (hn : n = nbr c) (f fd : Scr F) (hf : read0 f = sums x c) (W : Waits sig Unit)
    {hsc : (theirs : Memref sig (Dev.tc n : Thread nD τ).2.kind .vmem S4x128 .f32).view.ref.isScScratch = false}
    {hsrc : (mine : Memref sig .tc .vmem S4x128 .f32).view.WordExact} {hdst : (theirs : Memref sig .tc .vmem S4x128 .f32).view.WordExact}
    {hsem : DmaTarget.Typed .vmem recvL (.remote (Dev.tc n : Thread nD τ) (theirs : Memref sig .tc .vmem S4x128 .f32) sendL hsc)}
    {k : PUnit → Prog (TpuEff nD τ sig (Elt F) Λ₀ .tc) α} {Q : α → sProp 𝕄} :
    iprop(cellInv ER (plan x) (K (sendCell c)) (sendCell c) ∗ cellInv ER (plan x) (K (recvCell (nbr c))) (recvCell (nbr c))
        ∗ own0 c f ∗ own1 (nbr c) fd ∗ owes (c : Thread nD τ) (tallyAt (recvCell (nbr c)) () N) W
        ∗ dutyTok ER (sendCell c) 0 () ∗ reached ER (sendCell c) 0
        ∗ dutyTok ER (recvCell (nbr c)) 0 () ∗ reached ER (recvCell (nbr c)) 0)
      ⊢ iprop(((cred (tallyAt (sendCell c) () N) ∗ owes (c : Thread nD τ) 0 W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma mine (.remote (Dev.tc n : Thread nD τ) theirs sendL hsc) recvL hsrc hdst hsem) k) Q) := by
  subst hn
  unfold own0 own1
  exact Rounds.wp_send_pointsTo 𝒱₀ ER (plan x) (c : Thread nD τ) none (c' := (nbr c : Thread nD τ))
    (src := mine) (dst := theirs) (sS := sendL) (sem := recvL) (q := fullShare) (fs := f) (κ₁ := K (sendCell c)) (κ₂ := K (recvCell (nbr c)))
    (r₁ := 0) (r₂ := 0) (d₁ := ()) (d₂ := ()) (fd := fd) (plan_mem x c send_in) (plan_mem x (nbr c) recv_in)
    () () N rfl (amount_send x c ()) (amount_recv x (nbr c) ()) 0 (by rw [zero_add]) (W := W)
    (give_send x c f hf) (give_recv x c f fd hf)

end Steps

/-! ## The body -/

/-- What one run of the body starts from. -/
def bodyStart (K : GSem nD τ sig → ℕ) (c : Dev nD) (W : Waits sig Unit) (o : Vec F S512x256 .f32) : sProp 𝕄 :=
  iprop((awake x K c ∗ credits c ∗ levAts L lv) ∗ scrAny c ∗ owes (c : Thread nD τ) (owed0 c) W
    ∗ whole c cc0_stg0_0 (x c) ∗ whole c cc0_stg1_0 (g c) ∗ whole c cc0_stg2_0 o)

/-- The three counters, back at zero. -/
def counters (c : Dev nD) : sProp 𝕄 := iprop(semVal (barCell c) 0 ∗ semVal (sendCell c) 0 ∗ semVal (recvCell c) 0)

/-- What it ends in: nothing owed, the counters and the scratch buffer back, the result block staged. -/
def bodyEnd (c : Dev nD) : sProp 𝕄 :=
  iprop(counters c ∗ scrAny c ∗ (∃ W, owes (c : Thread nD τ) (0 : CellTallies nD τ sig Unit) W)
    ∗ whole c cc0_stg0_0 (x c) ∗ whole c cc0_stg1_0 (g c) ∗ whole c cc0_stg2_0 (outBlk x g c))

set_option maxHeartbeats 1600000 in
theorem body_run (K : GSem nD τ sig → ℕ) (c : Dev nD) (W : Waits sig Unit) (o : Vec F S512x256 .f32) (Kt : PUnit → sProp 𝕄) :
    iprop(bodyStart x g K c W o ∗ (bodyEnd x g c -∗ Kt ⟨⟩))
      ⊢ wp frame (wpE (defs₀ (F := F)) 𝒱₀ c none) Set.univ
          (cc0_body xM (Memref.isWhole_whole _) gM (Memref.isWhole_whole _) oM (Memref.isWhole_whole _)
            scrM (Memref.isWhole_whole _) cc0_scratch1 cc0_scratch2) Kt := by
  rw [cc0_body_eq_skeleton]
  unfold cc0_body_skel
  rw [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyStart awake known rights credits
  iintro ⟨⟨⟨⟨⟨#HIbar, #HIsnd, #HIrcv, #HIbarN, #HIrcvN⟩, ⟨HaB, HaS, HaR⟩, ⟨#HrBN, #HrS, #HrR⟩, ⟨HdB, HdR, HdS⟩⟩, ⟨HcB, HcR⟩, #Hlev⟩, ⟨%f0, Hscr⟩, HO, Hx, Hg, Ho⟩, Hk⟩
  simp only [dev1_nbr c]
  -- the barrier signal hands the own slot 1 to the neighbour
  ihave Hcut := (scr_cut c f0) $$ Hscr
  icases Hcut with ⟨H0, H1⟩
  iapply (Rounds.wp_signal 𝒱₀ ER (plan x) (c : Thread nD τ) none (dst := (nbr c : Thread nD τ)) (sem := barrier0) (κ := K (barCell (nbr c)))
      (plan_mem x (nbr c) bar_in) ((amount_bar x (nbr c) ()).trans (by decide)) () (tallyAt (recvCell (nbr c)) () N) rfl)
    $$ [HO HdB H1]
  · isplitr; · iexact HIbarN
    isplitl [HO]; · iexact HO
    isplitl [HdB]; · iexact HdB
    isplitl [H1]
    · iapply (Entails.of_eq (payload_bar x (nbr c) ()).symm)
      unfold barPay
      rw [nbr_nbr]
      isplitl [H1]
      · iexists f0; iexact H1
      iexact HrR
    iexact HrBN
  iintro HO
  -- the wait at the own barrier brings the neighbour's slot 1
  iapply (Rounds.wp_wait_rest_token 𝒱₀ ER (plan x) (c : Thread nD τ) none (κ := K (barCell c))
      (wpE_semWait_eq 𝒱₀ (c : Thread nD τ) none Set.univ) (Set.mem_univ _) () (O := tallyAt (recvCell (nbr c)) () N) (W := W) (R := 0) (m := 0) (T := ∅)
      ((by decide : 0 + (1#32).toNat = 1).trans (plan_expect x c bar_in (amount_bar x c ())).symm)) $$ [HcB HO HaB]
  · isplitr; · iexact HIbar
    isplitl [HcB]; · iexact HcB
    isplitl [HO]; · iexact HO
    isplitr; · iapply (wait_bar c); iexact Hlev
    iexact HaB
  iintro ⟨HO, HaB, -, Hpay⟩
  ihave Hp := (Entails.of_eq ((plan_round x c bar_in).trans (handed_bar x c))) $$ Hpay
  unfold barPay
  icases Hp with ⟨⟨%fn, H1⟩, #HrRN⟩
  -- the row sums go to slot 0
  iapply (wp_load 𝒱₀ (c : Thread nD τ) none Set.univ (m := xM) (Finset.subset_univ _)) $$ Hx; iintro Hx
  rw [read_x]
  iapply (step_load0 c f0) $$ H0; iintro H0
  iapply (step_store0 c f0 (sums x c)) $$ H0; iintro ⟨%f, %hf, H0⟩
  -- the copy
  iapply (step_copy x K c _ (dev2_nbr c) f fn hf (insert (barL, ()) W)) $$ [H0 H1 HO HdS HdR]
  · isplitr; · iexact HIsnd
    isplitr; · iexact HIrcvN
    isplitl [H0]; · iexact H0
    isplitl [H1]; · iexact H1
    isplitl [HO]; · iexact HO
    isplitl [HdS]; · iexact HdS
    isplitr; · iexact HrS
    isplitl [HdR]; · iexact HdR
    iexact HrRN
  iintro ⟨HcS, HO⟩
  iapply (wp_load 𝒱₀ (c : Thread nD τ) none Set.univ (m := gM) (Finset.subset_univ _)) $$ Hg; iintro Hg
  rw [read_g]
  -- the two waits bring slot 0 and slot 1 back
  iapply (Rounds.wp_wait_rest_token 𝒱₀ ER (plan x) (c : Thread nD τ) none (κ := K (sendCell c))
      (wpE_waitDma2_eq (src := theirs) (dst := mine) 𝒱₀ (c : Thread nD τ) none Set.univ) (Set.mem_univ _) () (O := 0) (W := insert (barL, ()) W) (R := 0) (m := 0) (T := ∅)
      ((Nat.zero_add _).trans (plan_expect x c send_in (amount_send x c ())).symm)) $$ [HcS HO HaS]
  · isplitr; · iexact HIsnd
    isplitl [HcS]; · iexact HcS
    isplitl [HO]; · iexact HO
    isplitr; · rw [MayWait_zero]; iempintro
    iexact HaS
  iintro ⟨HO, HaS, -, Hpay⟩
  ihave Hp := (Entails.of_eq ((plan_round x c send_in).trans (handed_send x c))) $$ Hpay
  unfold sendPay
  icases Hp with ⟨%f', %hf', H0⟩
  iapply (Rounds.wp_wait_rest_token 𝒱₀ ER (plan x) (c : Thread nD τ) none (κ := K (recvCell c))
      (wpE_waitDma2_eq (src := mine) (dst := theirs) 𝒱₀ (c : Thread nD τ) none Set.univ) (Set.mem_univ _) () (O := 0) (W := insert (sendL, ()) (insert (barL, ()) W))
      (R := 0) (m := 0) (T := ∅)
      ((Nat.zero_add _).trans (plan_expect x c recv_in (amount_recv x c ())).symm)) $$ [HcR HO HaR]
  · isplitr; · iexact HIrcv
    isplitl [HcR]; · iexact HcR
    isplitl [HO]; · iexact HO
    isplitr; · rw [MayWait_zero]; iempintro
    iexact HaR
  iintro ⟨HO, HaR, -, Hpay⟩
  ihave Hp := (Entails.of_eq ((plan_round x c recv_in).trans (handed_recv x c))) $$ Hpay
  unfold recvPay
  icases Hp with ⟨%h, %hh, H1⟩
  -- the result block
  iapply (step_load0 c f') $$ H0; iintro H0
  iapply (step_load1 c h) $$ H1; iintro H1
  rw [hf', hh]
  iapply (wp_load 𝒱₀ (c : Thread nD τ) none Set.univ (m := oM) (Finset.subset_univ _)) $$ Ho; iintro Ho
  iapply (wp_store 𝒱₀ (c : Thread nD τ) none Set.univ (m := oM) (r := boxX) (Mk := Finset.univ) (Finset.subset_univ _)) $$ Ho; iintro Ho
  rw [write_o, wp_ret]
  imod (finish x (K (barCell c)) (barCell c)) $$ [HaB] with HzB
  · isplitr; · iexact HIbar
    iexact HaB
  imod (finish x (K (sendCell c)) (sendCell c)) $$ [HaS] with HzS
  · isplitr; · iexact HIsnd
    iexact HaS
  imod (finish x (K (recvCell c)) (recvCell c)) $$ [HaR] with HzR
  · isplitr; · iexact HIrcv
    iexact HaR
  imodintro
  iapply Hk
  unfold bodyEnd counters outBlk
  isplitl [HzB HzS HzR]
  · isplitl [HzB]; · iexact HzB
    isplitl [HzS] <;> iassumption
  isplitl [H0 H1]
  · iapply (scr_paste c f' h)
    isplitl [H0] <;> iassumption
  isplitl [HO]; · iexists _; iexact HO
  isplitl [Hx]; · iexact Hx
  isplitl [Hg]; · iexact Hg
  iexact Ho

end Cert.KernelIdeal.Halves

end
-- ==== Proof.KernelIdeal.Region.lean ====
/-
  The kernel call as a region of the program: its arrays before and after, what its body keeps between entry and exit,
  and the record of the region, entered with the exchange still asleep and left with the barrier counter back at zero.
-/
module

public import proofs.«01_k».proof.Proof.KernelIdeal.Body
public import Idealize.ShloMosaic.Lib.Pipeline.ValueKit.Geometry

@[expose] public section

noncomputable section

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers at the region's entry and exit -/

/-- Device `c`'s buffers when the kernel is entered: as launched, the scales copied to a 1x256 array. -/
def entry (c : Dev nD) : Valuation τ sig (Elt F) := StableHlo.after hostOps0 (fun b => m (c, b))

/-- The block of device `c`, and its scales. -/
def xs (c : Dev nD) : Vec F S512x256 .f32 := entry m c (Proc.devRef .tc main_arg0)
def gs (c : Dev nD) : Vec F S1x256 .f32 := entry m c (Proc.devRef .tc main_v1)

/-- The result block of device `c`. -/
def res (c : Dev nD) : Vec F S512x256 .f32 := outBlk (xs m) (gs m) c

/-- Device `c`'s buffers when the kernel is left: the result block written. -/
def leave (c : Dev nD) : Valuation τ sig (Elt F) := Function.update (entry m c) (Proc.devRef .tc main_v2) (res m c)

theorem leave_v2 (c : Dev nD) : leave m c (Proc.devRef .tc main_v2) = res m c := Function.update_self ..
theorem leave_ne (c : Dev nD) {b : DevRef τ sig} (h : b ≠ Proc.devRef .tc main_v2) : leave m c b = entry m c b := Function.update_of_ne h ..

/-! ## The proof data -/

/-- Before the body: the exchange ready, its credits, the order of waiting. -/
def ready (c : Dev nD) : sProp 𝕄 := iprop((∃ K, awake (xs m) K c) ∗ credits c ∗ levAts L lv)

/-- Before the body: besides, the scratch buffer and the generator register. -/
def before (c : Dev nD) : sProp 𝕄 := iprop(ready m c ∗ scrAny c ∗ ∃ r, prngReg c r)
/-- After the body: the counters at zero, the scratch buffer and the generator register. -/
def done (c : Dev nD) : sProp 𝕄 := iprop(counters c ∗ scrAny c ∗ ∃ r, prngReg c r)

def dat (c : Dev nD) : Dat τ (Elt F) Unit ℕ UU ℕ cfg0 c where
  A w := entry m c (Proc.devRef .tc (Pipeline.arrRef spec0 w))
  after w _ := match w with
    | ⟨0, _⟩ => xs m c
    | ⟨1, _⟩ => gs m c
    | ⟨2, _⟩ => res m c
  Φ t := if t.val = 0 then before m c else done c
  q _ := fullShare
  owed t := if t.val = 0 then owed0 c else 0

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m

theorem inv_first (c : Dev nD) (t : Fin (cfg0.N + 1)) (h : t.val = 0) : (dat m c).Φ t = before m c := if_pos h
theorem inv_last (c : Dev nD) (t : Fin (cfg0.N + 1)) (h : t.val ≠ 0) : (dat m c).Φ t = done c := if_neg h
theorem owed_first (c : Dev nD) (t : Fin (cfg0.N + 1)) (h : t.val = 0) : (dat m c).owed t = owed0 c := if_pos h
theorem owed_last (c : Dev nD) (t : Fin (cfg0.N + 1)) (h : t.val ≠ 0) : (dat m c).owed t = 0 := if_neg h

theorem last_ne : (Fin.last cfg0.N).val ≠ 0 := by rw [Fin.val_last, show cfg0.N = 1 from N_0]; decide

/-! ## The body's obligation -/

/-- The one block of each window starts at the array's first element. -/
theorem index_0 (a : Fin 2) : (cfg0.win (0 : Fin 3)).index t0_0 a = 0 := by fin_cases a <;> rfl
theorem index_1 (a : Fin 2) : (cfg0.win (1 : Fin 3)).index t0_0 a = 0 := by fin_cases a <;> rfl

/-- The body finds the device's block and its scales staged. -/
theorem staged_0 (c : Dev nD) (d) : (dat m c).before (0 : Fin 3) t0_0 d = xs m c := by
  unfold Dat.before
  rw [if_pos (fetch0_0 _)]
  funext i
  exact congrArg (xs m c) (funext fun a => Fin.ext (Pipeline.Window.rect_emb_val_of_index_zero (cfg0.win (0 : Fin 3)) t0_0 a (index_0 a) i))

theorem staged_1 (c : Dev nD) (d) : (dat m c).before (1 : Fin 3) t0_0 d = gs m c := by
  unfold Dat.before
  rw [if_pos (fetch0_1 _)]
  funext i
  exact congrArg (gs m c) (funext fun a => Fin.ext (Pipeline.Window.rect_emb_val_of_index_zero (cfg0.win (1 : Fin 3)) t0_0 a (index_1 a) i))

/-- Owning a whole buffer that reads `X` is owning it at contents `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = whole c b X := by
  unfold owns
  simp only [Memref.view_whole, View.read_whole, View.set_whole]
  refine BI.equiv_iff.mp ⟨?_, ?_⟩
  · show iprop(∃ f : Buf (Elt F) ((c : Thread nD τ).loc b), ⌜f = X⌝ ∗ whole c b f) ⊢ whole c b X
    iintro ⟨%f, %h, H⟩
    subst h
    iexact H
  · show whole c b X ⊢ iprop(∃ f : Buf (Elt F) ((c : Thread nD τ).loc b), ⌜f = X⌝ ∗ whole c b f)
    iintro H
    iexists X
    isplitr
    · ipureintro; rfl
    iexact H

theorem owes_in (c : Dev nD) (t : Fin (cfg0.N + 1)) (O : CellTallies nD τ sig Unit) (h : (dat m c).owed t = O) :
    (∃ W, owes (c : Thread nD τ) O W : sProp 𝕄) ⊢ (dat m c).owesAt () t := by
  unfold Dat.owesAt Pipeline.owesWithin
  rw [h]
  iintro ⟨%W, HO⟩
  iexists W
  isplitr
  · ipureintro; exact fun _ _ => Or.inl trivial
  iexact HO

theorem owes_out (c : Dev nD) (t : Fin (cfg0.N + 1)) (O : CellTallies nD τ sig Unit) (h : (dat m c).owed t = O) :
    ((dat m c).owesAt () t : sProp 𝕄) ⊢ (∃ W, owes (c : Thread nD τ) O W) := by
  unfold Dat.owesAt Pipeline.owesWithin
  rw [h]
  iintro ⟨%W, -, HO⟩
  iexists W
  iexact HO

/-- The body at the region's one point, between the two invariants. -/
theorem body_between (c : Dev nD) (t t' : Fin (cfg0.N + 1)) (ht : t.val = 0) (ht' : t'.val ≠ 0) (o : Vec F S512x256 .f32) :
    iprop(before m c ∗ (dat m c).owesAt () t ∗ whole c cc0_stg0_0 (xs m c) ∗ whole c cc0_stg1_0 (gs m c) ∗ whole c cc0_stg2_0 o)
      ⊢ wp frame (wpE (defs₀ (F := F)) 𝒱₀ c none) Set.univ
          (cc0_body xM (Memref.isWhole_whole _) gM (Memref.isWhole_whole _) oM (Memref.isWhole_whole _)
            scrM (Memref.isWhole_whole _) cc0_scratch1 cc0_scratch2)
          (fun _ => iprop(done c ∗ (dat m c).owesAt () t' ∗ whole c cc0_stg0_0 (xs m c) ∗ whole c cc0_stg1_0 (gs m c) ∗ whole c cc0_stg2_0 (res m c))) := by
  unfold before ready
  iintro ⟨⟨⟨⟨%K, Hg⟩, Hc, Hl⟩, Hs, Hp⟩, HO, Hx, Hgs, Ho⟩
  ihave HO' := (owes_out m c t (owed0 c) (owed_first m c t ht)) $$ HO
  icases HO' with ⟨%W, HO⟩
  iapply (body_run (xs m) (gs m) K c W o _)
  isplitr [Hp]
  · unfold bodyStart
    isplitl [Hg Hc Hl]
    · isplitl [Hg]; · iexact Hg
      isplitl [Hc] <;> iassumption
    isplitl [Hs]; · iexact Hs
    isplitl [HO]; · iexact HO
    isplitl [Hx]; · iexact Hx
    isplitl [Hgs] <;> iassumption
  unfold bodyEnd done
  iintro ⟨Hz, Hs, HO, Hx, Hgs, Ho⟩
  isplitl [Hz Hs Hp]
  · isplitl [Hz]; · iexact Hz
    isplitl [Hs] <;> iassumption
  isplitl [HO]
  · iapply (owes_in m c t' 0 (owed_last m c t' ht')) $$ HO
  isplitl [Hx]; · iexact Hx
  isplitl [Hgs]; · iexact Hgs
  iexact Ho

set_option maxRecDepth 4000 in
theorem obligation (c : Dev nD) : BodyObligation (dat m c) (defs₀ (F := F)) 𝒱₀ () Set.univ := fun t => by
  have ht := fin_N0 t
  subst ht
  rw [bigSep_W0, bigSep_W0]
  rw [inv_first m c _ rfl, inv_last m c (Fin.succ t0_0) (Nat.succ_ne_zero _)]
  show iprop(before m c ∗ (dat m c).owesAt () (Fin.castSucc t0_0)
      ∗ (∃ d, owns (c : Thread nD τ) (Memref.whole cc0_stg0_0) fullShare ((dat m c).before (0 : Fin 3) t0_0 d))
      ∗ (∃ d, owns (c : Thread nD τ) (Memref.whole cc0_stg1_0) fullShare ((dat m c).before (1 : Fin 3) t0_0 d))
      ∗ (∃ d, owns (c : Thread nD τ) (Memref.whole cc0_stg2_0) fullShare ((dat m c).before (2 : Fin 3) t0_0 d)))
    ⊢ wp frame (wpE (defs₀ (F := F)) 𝒱₀ c none) Set.univ
          (cc0_body xM (Memref.isWhole_whole _) gM (Memref.isWhole_whole _) oM (Memref.isWhole_whole _)
            scrM (Memref.isWhole_whole _) cc0_scratch1 cc0_scratch2)
          (fun _ => iprop(done c ∗ (dat m c).owesAt () (Fin.succ t0_0)
            ∗ owns (c : Thread nD τ) (Memref.whole cc0_stg0_0) fullShare (xs m c)
            ∗ owns (c : Thread nD τ) (Memref.whole cc0_stg1_0) fullShare (gs m c)
            ∗ owns (c : Thread nD τ) (Memref.whole cc0_stg2_0) fullShare (res m c)))
  simp only [owns_whole, staged_0, staged_1]
  iintro ⟨HB, HO, ⟨%d0, Hx⟩, ⟨%d1, Hg⟩, ⟨%d2, Ho⟩⟩
  iapply (body_between m c (Fin.castSucc t0_0) (Fin.succ t0_0) rfl (Nat.succ_ne_zero _) _)
  isplitl [HB]; · iexact HB
  isplitl [HO]; · iexact HO
  isplitl [Hx]; · iexact Hx
  isplitl [Hg]; · iexact Hg
  iexact Ho

/-! ## The region's record -/

/-- The kernel's own semaphores: the counters of its outgoing and of its incoming copies. -/
abbrev ownL : Fin 2 → SemLoc sig := fun | 0 => sendL | 1 => recvL

theorem own_zero (c : Dev nD) : (Pipeline.ownSems0 ownL c : sProp 𝕄) = iprop(semVal (sendCell c) 0 ∗ semVal (recvCell c) 0) :=
  BI.bigSep_fin_two (fun k : Fin 2 => (semVal ((c : Thread nD τ), ownL k) 0 : sProp 𝕄))

theorem scratch_rest (c : Dev nD) : (Pipeline.scopedRest (Ix := Unit) (Name := ℕ) (U := UU) (Lvl := ℕ) (Val := Elt F)
    (Pipeline.pin (pcfgs (F := F)) adm 0).spec c : sProp 𝕄) = scrAny c := scopedRest0_eq c

/-- What the launch leaves for the kernel, besides the buffers and what is owed. -/
def pending (c : Dev nD) : sProp 𝕄 := iprop((∃ K, asleep (xs m) K c) ∗ credits c)

/-- At the kernel's entry its two copy cells come into use, their counters at zero. -/
theorem wake (c : Dev nD) : iprop(pending m c ∗ Pipeline.ownSems0 ownL c ∗ levAts L lv) ⊢ (|={Set.univ}=> ready m c : sProp 𝕄) := by
  rw [own_zero]
  unfold pending ready asleep known
  iintro ⟨⟨⟨%K, ⟨#HIb, #HIs, #HIr, #HIbN, #HIrN⟩, ⟨HaB, HoS, HoR⟩, #HrBN, Hrt⟩, Hc⟩, ⟨HzS, HzR⟩, #Hl⟩
  imod (Rounds.cell_open ER (plan (xs m)) (g := sendCell c) (Set.mem_univ (K (sendCell c)))) $$ [HoS HzS] with ⟨HaS, #HrS⟩
  · isplitr; · iexact HIs
    isplitl [HoS] <;> iassumption
  imod (Rounds.cell_open ER (plan (xs m)) (g := recvCell c) (Set.mem_univ (K (recvCell c)))) $$ [HoR HzR] with ⟨HaR, #HrR⟩
  · isplitr; · iexact HIr
    isplitl [HoR] <;> iassumption
  imodintro
  isplitr [Hc]
  · iexists K
    unfold awake known
    isplitr
    · isplitr; · iexact HIb
      isplitr; · iexact HIs
      isplitr; · iexact HIr
      isplitr; · iexact HIbN
      iexact HIrN
    isplitl [HaB HaS HaR]
    · isplitl [HaB]; · iexact HaB
      isplitl [HaS] <;> iassumption
    isplitr
    · isplitr; · iexact HrBN
      isplitr; · iexact HrS
      iexact HrR
    iexact Hrt
  isplitl [Hc]; · iexact Hc
  iexact Hl

/-- What entry supplies makes the invariant before the body. -/
theorem enter (c : Dev nD) :
    iprop(Pipeline.scopedRest (Pipeline.pin (pcfgs (F := F)) adm 0).spec c ∗ (∃ r, prngReg c r)
        ∗ StableHlo.held (c.tc : Thread nD τ) ∅ (entry m c) ∗ ready m c) ⊢ (pdats m 0 c).Φ 0 := by
  rw [show (pdats m 0 c).Φ 0 = before m c from inv_first m c 0 rfl, scratch_rest]
  unfold before
  iintro ⟨Hs, Hp, -, Hr⟩
  isplitl [Hr]; · iexact Hr
  isplitl [Hs] <;> iassumption

/-- The invariant after the body gives back what exit asks for, and the barrier counter at zero. -/
theorem exit (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (leave m c) ∗ Pipeline.ownSems0 ownL c ∗ semVal (barCell c) 0) := by
  rw [show (pdats m 0 c).Φ (Fin.last _) = done c from inv_last m c _ last_ne, scratch_rest, own_zero,
    show (StableHlo.held (c.tc : Thread nD τ) ∅ (leave m c) : sProp 𝕄) = BI.emp from BI.bigSep_empty]
  unfold done counters
  iintro ⟨⟨Hb, Hss⟩, Hs, Hp⟩
  isplitl [Hs]; · iexact Hs
  isplitl [Hp]; · iexact Hp
  isplitr; · iempintro
  isplitl [Hss] <;> iassumption

/-- What is owed is owed at cells above the staging cells. -/
theorem owed_above (c : Dev nD) (t : Fin (cfg0.N + 1)) (g : GSem nD τ sig) (u : Unit) (h : 0 < (dat m c).owed t g u) :
    u ∈ L g ∧ 0 < lv g u := by
  by_cases ht : t.val = 0
  · rw [owed_first m c t ht] at h
    unfold owed0 at h
    rw [Pi.add_apply, Finsupp.add_apply] at h
    rcases Nat.add_pos_iff_pos_or_pos.mp h with h | h
    · rw [tally_pos h, show u = () from rfl, L_tc, lv_recv]
      exact ⟨Finset.mem_singleton_self _, by decide⟩
    · rw [tally_pos h, show u = () from rfl, L_tc, lv_bar]
      exact ⟨Finset.mem_singleton_self _, by decide⟩
  · rw [owed_last m c t ht] at h
    exact absurd h (Nat.lt_irrefl 0)

theorem stage_low : ∀ (w : Fin 3) (s : Fin (spec0 w).nbuf), SemLoc.dma ((spec0 w).sem s) ≠ recvL ∧ SemLoc.dma ((spec0 w).sem s) ≠ barL := by
  decide

theorem lv_stage (c : Dev nD) (w : Fin 3) (s : Fin (spec0 w).nbuf) : lv ((c : Thread nD τ), .dma ((spec0 w).sem s)) () = 0 :=
  (if_neg (stage_low w s).1).trans (if_neg (stage_low w s).2)

theorem arr_first (c : Dev nD) (w : Fin 3) : (dat m c).arrAt w 0 = entry m c (Proc.devRef .tc (Pipeline.arrRef spec0 w)) := rfl

/-- The result array ends holding the result block. -/
theorem arr_out (c : Dev nD) : (dat m c).arrAt (2 : Fin 3) cfg0.N = res m c :=
  (dat m c).arrAt_eq_of_after_last (2 : Fin 3) t0_0 (by decide +kernel) (res m c) fun _ => rfl

theorem arr_last (c : Dev nD) : ∀ w : Fin 3, (dat m c).arrAt w cfg0.N = leave m c (Proc.devRef .tc (Pipeline.arrRef spec0 w))
  | 0 => ((dat m c).arrAt_in (0 : Fin 3) rfl _).trans (leave_ne m c (b := Proc.devRef .tc main_arg0) (by decide)).symm
  | 1 => ((dat m c).arrAt_in (1 : Fin 3) rfl _).trans (leave_ne m c (b := Proc.devRef .tc main_v1) (by decide)).symm
  | 2 => (arr_out m c).trans (leave_v2 m c).symm

/-- The one buffer of @main that no window stages: the scales as launched. -/
abbrev aside : Finset (DevRef τ sig) := {Proc.devRef .tc main_arg1}

theorem aside_kept (c : Dev nD) (b : DevRef τ sig) (hb : b ∈ aside \ ∅) : leave m c b = entry m c b := by
  rw [Finset.sdiff_empty, Finset.mem_singleton] at hb
  subst hb
  exact leave_ne m c (by decide)

local notation "ℝ𝕊" => Pipeline.RegionSeg (pcfgs (F := F)) adm (pdats m) () defs₀ 𝒱₀ L lv

set_option backward.isDefEq.respectTransparency.types false in
/-- The kernel call, as one region. -/
def region : ℝ𝕊 0 :=
  Pipeline.RegionSeg.ofTalk (pcfgs (F := F)) adm (pdats m) () defs₀ 𝒱₀ L lv 0 ownL (by decide : Pipeline.OwnSemFacts spec0 ownL)
    ∅ aside (Finset.empty_subset _) launch0.toP rfl (fun c => (obligation m c).loose)
    (fun _ => 0) owed0 (fun c => (owed_first m c 0 rfl).trans (zero_add _).symm) (fun c => owed_last m c _ last_ne) (fun _ => rfl)
    (fun _ w => by unfold Dat.share; split <;> rfl)
    (entry m) (leave m) (aside_kept m)
    (pending m) (fun c => semVal (barCell c) 0) (ready m) (fun c => semVal (barCell c) 0) (wake m) (enter m) (exit m)
    (fun c => by iintro H; imodintro; iexact H)
    (fun _ => 0)
    ⟨fun c w s => by rw [L_tc]; exact Finset.mem_singleton_self _, fun c w s => (lv_stage c w s).le, fun c t g u h => owed_above m c t g u h⟩
    (fun _ => iprop(emp))
    (arr_first m) (arr_last m)

end Cert.KernelIdeal.Halves

end
-- ==== Proof.KernelIdeal.Run.lean ====
/-
  The whole program: the host's copy of the scales, then the kernel. At the launch every cell of the exchange is set up,
  the barrier cells in use and the copy cells asleep, and each device receives its part; at the end every device's result
  array holds its result block, its arguments are as launched, and every semaphore of the machine is at zero.
-/
module

public import proofs.«01_k».proof.Proof.KernelIdeal.Region
public import Idealize.ShloMosaic.Lib.Quiescent

@[expose] public section

noncomputable section

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs arrRefs)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

/-- What rides beside the buffers until the kernel: the exchange asleep, the generator register, what is owed. -/
def beside (c : Dev nD) : sProp 𝕄 :=
  iprop(pending m c ∗ (∃ r, prngReg c r) ∗ ∃ W, owes (c : Thread nD τ) (owed0 c) W)

/-- Device `c`'s buffers as launched. -/
def launched (c : Dev nD) : Valuation τ sig (Elt F) := fun b => m (c, b)

theorem ops_sub : ∀ op ∈ (hostOps0 : List (HloOp τ sig (Elt F))), op.bufs ⊆ ucRefs τ sig := fun op h =>
  Pipeline.sub_ucRefs op (List.forall_iff_forall_mem.mp hostOps0_sub op h)

/-- The host's copy of the scales to a 1x256 array. -/
def hostSeg : Pipeline.HostSeg (Name := ℕ) (U := UU) (pcfgs (F := F)) defs₀ 𝒱₀ L lv :=
  Pipeline.HostSeg.ofOps _ _ _ _ _ (ucRefs τ sig) hostOps0 ops_sub (List.forall_iff_forall_mem.mp hostOps0_fresh) (launched m) (beside m)

def segs : List (Pipeline.Seg (pcfgs (F := F)) adm (pdats m) () defs₀ 𝒱₀ L lv) := [.host (hostSeg m), .region (region m)]

/-- The buffers of the program are the kernel's three arrays and the scales as launched. -/
theorem bufs_cut (c : Dev nD) (W : Valuation τ sig (Elt F)) :
    (StableHlo.held (c : Thread nD τ) (ucRefs τ sig) W : sProp 𝕄)
      = iprop(StableHlo.held (c : Thread nD τ) (arrRefs (τ := τ) spec0) W ∗ StableHlo.held (c : Thread nD τ) aside W) := by
  rw [StableHlo.held_sub_split (c : Thread nD τ) (show arrRefs (τ := τ) spec0 ⊆ ucRefs τ sig by decide) W,
    show ucRefs τ sig \ arrRefs (τ := τ) spec0 = aside by decide]

/-- From the host to the kernel. -/
theorem region_pre (c : Dev nD) : iprop(StableHlo.held (c : Thread nD τ) (ucRefs τ sig) (entry m c) ∗ beside m c) ⊢ (region m).pre c := by
  show _ ⊢ iprop(StableHlo.held (c.tc : Thread nD τ) (arrRefs (τ := τ) spec0) (entry m c) ∗ (∃ r, prngReg c r)
    ∗ (StableHlo.held (c.tc : Thread nD τ) aside (entry m c) ∗ emp) ∗ pending m c ∗ ∃ Wd, owes (c : Thread nD τ) (0 + owed0 c) Wd)
  rw [bufs_cut, zero_add]
  unfold beside
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- After the kernel: every buffer held, the barrier counter at zero. -/
abbrev ending (c : Dev nD) : sProp 𝕄 := iprop(StableHlo.held (c : Thread nD τ) (ucRefs τ sig) (leave m c) ∗ semVal (barCell c) 0)

theorem region_post (c : Dev nD) :
    (region m).post c ⊢ iprop(ending m c ∗ ∃ W, owes (c : Thread nD τ) (0 : CellTallies nD τ sig Unit) W) := by
  show iprop(StableHlo.held (c.tc : Thread nD τ) (arrRefs (τ := τ) spec0) (leave m c) ∗ (∃ r, prngReg c r)
    ∗ (StableHlo.held (c.tc : Thread nD τ) aside (leave m c) ∗ emp) ∗ semVal (barCell c) 0
    ∗ ∃ Wd, owes (c : Thread nD τ) (0 : CellTallies nD τ sig Unit) Wd) ⊢ _
  unfold ending
  rw [bufs_cut]
  iintro ⟨Ha, -, ⟨Hr, -⟩, Hb, HO⟩
  isplitr [HO]
  · isplitl [Ha Hr]
    · isplitl [Ha] <;> iassumption
    iexact Hb
  iexact HO

/-! ## The cells set up at the launch -/

def barAt : Dev nD ↪ GSem nD τ sig := ⟨barCell, fun _ _ h => congrArg (fun g : GSem nD τ sig => g.1.1) h⟩

theorem ownL_inj : Function.Injective ownL := by decide
theorem ownL_ne : ∀ k : Fin 2, ownL k ≠ barL := by decide

def ownAt : Dev nD × Fin 2 ↪ GSem nD τ sig :=
  ⟨fun ck => ((ck.1 : Thread nD τ), ownL ck.2), fun _ _ h =>
    Prod.ext (congrArg (fun g : GSem nD τ sig => g.1.1) h) (ownL_inj (congrArg Prod.snd h))⟩

/-- Every device's barrier cell; every device's two copy cells. -/
abbrev barCells : Finset (GSem nD τ sig) := Finset.univ.map barAt
abbrev copyCells : Finset (GSem nD τ sig) := Finset.univ.map ownAt
abbrev allCells : Finset (GSem nD τ sig) := barCells ∪ copyCells

theorem cells_apart : Disjoint barCells copyCells := by
  rw [Finset.disjoint_left]
  intro g h1 h2
  obtain ⟨c, -, rfl⟩ := Finset.mem_map.mp h1
  obtain ⟨ck, -, h⟩ := Finset.mem_map.mp h2
  exact ownL_ne ck.2 (congrArg Prod.snd h)

theorem bar_cell (c : Dev nD) : barCell c ∈ allCells := Finset.mem_union_left _ (Finset.mem_map_of_mem barAt (Finset.mem_univ c))
theorem send_cell (c : Dev nD) : sendCell c ∈ allCells :=
  Finset.mem_union_right _ (Finset.mem_map_of_mem ownAt (Finset.mem_univ (c, (0 : Fin 2))))
theorem recv_cell (c : Dev nD) : recvCell c ∈ allCells :=
  Finset.mem_union_right _ (Finset.mem_map_of_mem ownAt (Finset.mem_univ (c, (1 : Fin 2))))

/-- The three semaphores of a device on which something is raised, by number. -/
abbrev semNo : Fin 3 → SemLoc sig := fun | 0 => barL | 1 => recvL | 2 => sendL
theorem semNo_inj : Function.Injective semNo := by decide

/-- One right to raise per cell. -/
def raises : Finset (GSem nD τ sig × ℕ × Unit) :=
  Finset.univ.map ⟨fun ck : Dev nD × Fin 3 => (((ck.1 : Thread nD τ), semNo ck.2), 0, ()), fun _ _ h =>
    Prod.ext (congrArg (fun t : GSem nD τ sig × ℕ × Unit => t.1.1.1) h)
      (semNo_inj (congrArg (fun t : GSem nD τ sig × ℕ × Unit => t.1.2) h))⟩

theorem three (Φ : Fin 3 → sProp 𝕄) : bigSep Finset.univ Φ = iprop(Φ 0 ∗ Φ 1 ∗ Φ 2) := bigSep_W0 Φ

/-- The rights dealt cell by cell are the rights of the devices that use them: barrier and incoming ones go to the neighbour. -/
theorem raises_dealt :
    bigSep raises (fun t => (dutyTok ER t.1 t.2.1 t.2.2 : sProp 𝕄)) ⊢ bigSep Finset.univ fun c : Dev nD => (rights c : sProp 𝕄) := by
  unfold raises rights
  rw [bigSep_map, bigSep_univ_prod]
  rw [bigSep_congr (s := (Finset.univ : Finset (Dev nD)))
    (Ψ := fun c : Dev nD => iprop(dutyTok ER (barCell c) 0 () ∗ dutyTok ER (recvCell c) 0 () ∗ (dutyTok ER (sendCell c) 0 () : sProp 𝕄)))
    fun c _ => three (F := F) _]
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  exact BI.Entails.refl _

/-- The launch element: the staging transfers', and the exchange's. -/
def seed : UU :=
  (initOf (Pipeline.cells (Pipeline.pin (pcfgs (F := F)) adm) cellOf_inj) (Pipeline.launchToks (Pipeline.pin (pcfgs (F := F)) adm) cellOf_inj),
    launchOf barCells copyCells raises)

/-- The exchange's launch element rests on device 0 until it is dealt. -/
def rest (c : Dev nD) : sProp 𝕄 := if c = 0 then BI.own (ER (launchOf barCells copyCells raises)) else iprop(emp)

theorem rest_all : bigSep Finset.univ (rest (F := F)) = (BI.own (ER (launchOf barCells copyCells raises)) : sProp 𝕄) := by
  rw [bigSep_univ_at _ (0 : Dev nD), bigSep_congr (s := Finset.univ.erase (0 : Dev nD)) (Ψ := fun _ => (BI.emp : sProp 𝕄))
    fun c hc => by unfold rest; rw [if_neg (Finset.ne_of_mem_erase hc)]; rfl, BI.bigSep_emp_const]
  unfold rest
  rw [if_pos rfl]
  exact BI.equiv_iff.mp sep_emp

/-! ## What each device receives -/

/-- Each device's holding of two parts is all the first parts and all the second parts, and back. -/
theorem parts (Φ Ψ : Dev nD → sProp 𝕄) :
    (bigSep Finset.univ fun c => iprop(Φ c ∗ Ψ c)) ⊢ iprop(bigSep Finset.univ Φ ∗ bigSep Finset.univ Ψ) := Entails.of_eq (bigSep_sep' ..)
theorem unite (Φ Ψ : Dev nD → sProp 𝕄) :
    iprop(bigSep Finset.univ Φ ∗ bigSep Finset.univ Ψ) ⊢ (bigSep Finset.univ fun c => iprop(Φ c ∗ Ψ c)) := Entails.of_eq (bigSep_sep' ..).symm

/-- What every device may consult: the cells' invariants under one naming, and round 0 of every barrier cell reached. -/
def records (κ : GSem nD τ sig → ℕ) : sProp 𝕄 :=
  iprop((bigSep allCells fun g => cellInv ER (plan (xs m)) (κ g) g) ∗ bigSep barCells fun g => reached ER g 0)

instance records_persistent (κ : GSem nD τ sig → ℕ) : BI.Persistent (records m κ) := by unfold records; infer_instance

/-- What only device `c` receives of the exchange. -/
def share (c : Dev nD) : sProp 𝕄 :=
  iprop((atPos ER (barCell c) 0 ∅ 0 ∗ openTok ER (sendCell c) ∗ openTok ER (recvCell c)) ∗ rights c)

theorem asleep_of (κ : GSem nD τ sig → ℕ) (c : Dev nD) : iprop(records m κ ∗ share c) ⊢ asleep (xs m) κ c := by
  have inv {g : GSem nD τ sig} (hg : g ∈ allCells) :
      (bigSep allCells fun g => (cellInv ER (plan (xs m)) (κ g) g : sProp 𝕄)) ⊢ cellInv ER (plan (xs m)) (κ g) g := bigSep_elim hg
  have rea : (bigSep barCells fun g => (reached ER g 0 : sProp 𝕄)) ⊢ reached ER (barCell (nbr c)) 0 :=
    bigSep_elim (Finset.mem_map_of_mem barAt (Finset.mem_univ (nbr c)))
  unfold records share asleep known
  iintro ⟨⟨#HI, #HR⟩, Hpos, Hrt⟩
  isplitr
  · isplitr; · iapply (inv (bar_cell c)); iexact HI
    isplitr; · iapply (inv (send_cell c)); iexact HI
    isplitr; · iapply (inv (recv_cell c)); iexact HI
    isplitr; · iapply (inv (bar_cell (nbr c))); iexact HI
    iapply (inv (recv_cell (nbr c))); iexact HI
  isplitl [Hpos]; · iexact Hpos
  isplitr; · iapply rea; iexact HR
  iexact Hrt

/-! ## The credits -/

theorem nbr_of_cell {d c : Dev nD} {sm sm' : SemLoc sig} (h : (((nbr d : Dev nD) : Thread nD τ), sm) = ((c : Thread nD τ), sm')) : d = nbr c := by
  rw [← nbr_nbr d]
  exact congrArg nbr (congrArg (fun g : GSem nD τ sig => g.1.1) h)

/-- Of the barrier units, device `c`'s neighbour owes the one at `c`'s cell. -/
theorem owed_bar (d c : Dev nD) : owed0 d (barCell c) () = if d = nbr c then 1 else 0 := by
  unfold owed0
  rw [Pi.add_apply, Finsupp.add_apply, tallyAt_ne_cell (fun h => recv_ne_bar (congrArg Prod.snd h).symm), tallyAt_apply, Finsupp.zero_apply, Nat.zero_add]
  by_cases h : d = nbr c
  · subst h
    rw [nbr_nbr, if_pos ⟨rfl, rfl⟩, if_pos rfl]
  · rw [if_neg fun e => h (nbr_of_cell e.1.symm), if_neg h]

theorem owed_recv (d c : Dev nD) : owed0 d (recvCell c) () = if d = nbr c then N else 0 := by
  unfold owed0
  rw [Pi.add_apply, Finsupp.add_apply, tallyAt_apply, tallyAt_ne_cell (fun h => recv_ne_bar (congrArg Prod.snd h)), Finsupp.zero_apply, Nat.add_zero]
  by_cases h : d = nbr c
  · subst h
    rw [nbr_nbr, if_pos ⟨rfl, rfl⟩, if_pos rfl]
  · rw [if_neg fun e => h (nbr_of_cell e.1.symm), if_neg h]

/-- The whole credit at a cell that exactly one device owes `n` units. -/
theorem credit_at (g : GSem nD τ sig) (d₀ : Dev nD) (n : ℕ) (h : ∀ d, owed0 d g () = if d = d₀ then n else 0) :
    tallyOn g (launchCredit (Pipeline.owing owed0) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ d₀ fun _ => n, if_pos (Finset.mem_univ _)]

theorem credits_of (c : Dev nD) : (Pipeline.launchCred owed0 c : sProp 𝕄) ⊢ credits c := by
  unfold Pipeline.launchCred credits
  rw [bigSep_univ_at _ barL, credit_at (barCell c) (nbr c) 1 fun d => owed_bar d c]
  refine sep_mono_right ?_
  rw [← credit_at (recvCell c) (nbr c) N fun d => owed_recv d c]
  exact bigSep_elim (Finset.mem_erase.mpr ⟨recv_ne_bar, Finset.mem_univ _⟩)

/-! ## The launch -/

/-- The state a device's program starts from. -/
abbrev opening (c : Dev nD) : sProp 𝕄 := iprop(StableHlo.held (c : Thread nD τ) (ucRefs τ sig) (launched m c) ∗ beside m c)

/-- What the machine deals device `c`. -/
abbrev dealt (c : Dev nD) : sProp 𝕄 :=
  iprop(unscopedBufs c (fun b => m ((c : Thread nD τ).loc b)) ∗ unscopedSems0 c ∗ owes (c : Thread nD τ) (owed0 c) ∅
    ∗ Pipeline.launchCred owed0 c ∗ prngReg c (ρ c) ∗ rest c)

/-- Of that, what needs no setting up. -/
def kept (c : Dev nD) : sProp 𝕄 :=
  iprop(StableHlo.held (c : Thread nD τ) (ucRefs τ sig) (launched m c) ∗ credits c ∗ (∃ r, prngReg c r) ∗ owes (c : Thread nD τ) (owed0 c) ∅)

theorem unscoped_bar : ∀ sm : SemLoc sig, sm.isScoped .tc = false → sm = barL := by decide

theorem unscoped_zero (c : Dev nD) : (unscopedSems0 c : sProp 𝕄) = semVal (barCell c) 0 := by
  unfold unscopedSems0
  rw [show (Finset.univ.filter fun sm : SemLoc sig => ¬ sm.isScoped .tc) = {barL} from by decide, BI.bigSep_singleton]

theorem dealt_cut (c : Dev nD) : dealt m ρ c ⊢ iprop(kept m c ∗ (semVal (barCell c) 0 ∗ rest c)) := by
  unfold dealt
  rw [show (unscopedBufs c (fun b => m ((c : Thread nD τ).loc b)) : sProp 𝕄) = StableHlo.held (c : Thread nD τ) (ucRefs τ sig) (launched m c)
    from Pipeline.unscopedBufs_held c (launched m c), unscoped_zero]
  unfold kept
  iintro ⟨Hh, Hz, HO, Hc, Hp, HG⟩
  isplitr [Hz HG]
  · isplitl [Hh]; · iexact Hh
    isplitl [Hc]; · iapply (credits_of c) $$ Hc
    isplitl [Hp]; · iexists (ρ c); iexact Hp
    iexact HO
  isplitl [Hz] <;> iassumption

theorem opening_of (κ : GSem nD τ sig → ℕ) (c : Dev nD) : iprop(records m κ ∗ (share c ∗ kept m c)) ⊢ opening m c := by
  unfold kept opening beside pending
  iintro ⟨#HR, Hsh, Hh, Hc, Hp, HO⟩
  isplitl [Hh]; · iexact Hh
  isplitl [Hsh Hc]
  · isplitl [Hsh]
    · iexists κ
      iapply (asleep_of m κ c)
      isplitr; · iexact HR
      iexact Hsh
    iexact Hc
  isplitl [Hp]; · iexact Hp
  iexists ∅
  iexact HO

/-- Setting up the exchange: from what the machine deals all devices to every device's opening state. -/
theorem set_up : iprop(bigSep Finset.univ (dealt m ρ) ∗ levAts L lv) ⊢ (|={Set.univ}=> bigSep Finset.univ (opening m) : sProp 𝕄) := by
  have cut : bigSep Finset.univ (dealt m ρ) ⊢ bigSep Finset.univ (fun c : Dev nD => iprop(kept m c ∗ (semVal (barCell c) 0 ∗ rest c))) :=
    bigSep_mono fun c _ => dealt_cut m ρ c
  have zero : bigSep Finset.univ (fun c : Dev nD => (semVal (barCell c) 0 : sProp 𝕄)) ⊢ bigSep barCells (fun g => (semVal g 0 : sProp 𝕄)) :=
    Entails.of_eq (bigSep_map (s := Finset.univ) barAt (Φ := fun g : GSem nD τ sig => (semVal g 0 : sProp 𝕄))).symm
  have pos : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barAt (Φ := fun g : GSem nD τ sig => (atPos ER g 0 ∅ 0 : sProp 𝕄)))
  have opn : bigSep copyCells (fun g => (openTok ER g : sProp 𝕄))
      ⊢ bigSep Finset.univ (fun c : Dev nD => iprop(openTok ER (sendCell c) ∗ openTok ER (recvCell c))) :=
    Entails.of_eq (by
      rw [bigSep_map, bigSep_univ_prod]
      exact bigSep_congr fun c _ => BI.bigSep_fin_two (fun k : Fin 2 => (openTok ER ((c : Thread nD τ), ownL k) : sProp 𝕄)))
  iintro ⟨H, -⟩
  ihave H1 := cut $$ H
  ihave H2 := (parts _ _) $$ H1; icases H2 with ⟨Hk, H3⟩
  ihave H4 := (parts _ _) $$ H3; icases H4 with ⟨Hz, HG⟩
  ihave Hu := (Entails.of_eq (rest_all (F := F))) $$ HG
  imod (Rounds.fund_launch ER (plan (xs m)) cells_apart (fun g _ h => h) raises) $$ [Hz Hu] with ⟨%κ, -, #HI, #HR, Hat, Hop, Htk⟩
  · isplitl [Hz]
    · iapply zero $$ Hz
    iexact Hu
  imodintro
  iapply (bigSep_with_persistent (R := records m κ) (Φ := fun c => iprop(share c ∗ kept m c)) fun c _ => opening_of m κ c)
  isplitr
  · unfold records
    isplitr; · iexact HI
    iexact HR
  iapply (unite _ _)
  isplitr [Hk]
  · unfold share
    iapply (unite _ _)
    isplitl [Hat Hop]
    · iapply (unite _ _)
      isplitl [Hat]; · iapply pos $$ Hat
      iapply opn $$ Hop
    iapply (raises_dealt (F := F)) $$ Htk
  iexact Hk

/-! ## The run -/

/-- The buffers of a device that the claims speak of. -/
theorem bufs_four (c : Dev nD) (W : Valuation τ sig (Elt F)) : (StableHlo.held (c : Thread nD τ) (ucRefs τ sig) W : sProp 𝕄)
    = iprop(whole c main_arg0 (W (Proc.devRef .tc main_arg0)) ∗ whole c main_arg1 (W (Proc.devRef .tc main_arg1))
      ∗ whole c main_v1 (W (Proc.devRef .tc main_v1)) ∗ whole c main_v2 (W (Proc.devRef .tc main_v2))) := by
  unfold StableHlo.held
  rw [bigSep_eq_bigSepL_of_eq [Proc.devRef .tc main_arg0, Proc.devRef .tc main_arg1, Proc.devRef .tc main_v1, Proc.devRef .tc main_v2]
    (by decide) (by decide)]
  rfl

set_option backward.isDefEq.respectTransparency.types false in
/-- From any memory, with every counter at zero: every fair execution ends, the arguments are as launched, the result array
    of device `c` holds `res m c`, and every semaphore of the machine is at zero. -/
theorem run_all : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = res m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (hostSeg m) (region m) rfl c]; rfl)
    (by simp only [segs, Pipeline.Seg.pipes_host, Pipeline.Seg.pipes_region, Pipeline.Seg.pipes_nil]; decide)
    (O₀ := owed0) (hL := L_off) (G := rest) (u₀ := seed (F := F))
    (hu₀ := by
      unfold seed
      iintro Hu
      ihave H := (ownU_pair _ _) $$ Hu
      icases H with ⟨HP, HX⟩
      imodintro
      isplitl [HP]; · iexact HP
      rw [rest_all]
      iexact HX)
    (T₀ := opening m) (Tₙ := ending m)
    (hch := ⟨fun c => .rfl, fun c => region_pre m c, fun c => region_post m c⟩)
    (hinit := set_up m ρ)
    (QY := fun c s => (s.mem ((c : Thread nD τ).loc main_arg0) = leave m c (Proc.devRef .tc main_arg0)
        ∧ s.mem ((c : Thread nD τ).loc main_arg1) = leave m c (Proc.devRef .tc main_arg1)
        ∧ s.mem ((c : Thread nD τ).loc main_v2) = leave m c (Proc.devRef .tc main_v2)) ∧ s.sem (barCell c) = 0)
    (hfin := fun c s' => by
      unfold ending
      rw [bufs_four]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => by
        obtain ⟨⟨hx, hg, ho⟩, -⟩ := h c
        refine ⟨hx.trans ?_, hg.trans ?_, ho.trans (leave_v2 m c)⟩
        · exact (leave_ne m c (by decide)).trans (V_main_arg0 m c)
        · exact (leave_ne m c (by decide)).trans (V_main_arg1 m c),
      sem_eq_zero hs fun c sm hsm => by
        obtain rfl := unscoped_bar sm hsm
        exact (h c).2⟩)

end Cert.KernelIdeal.Halves

end
-- ==== Proof.Kernel.Same.lean ====
/-
  The kernel as printed and the kernel read on extended reals are one text, so at bit patterns they are one program: the
  run proved for every choice of floats covers it too.
-/
module

public import proofs.«01_k».proof.Proof.KernelIdeal.Run
public import proofs.«01_k».proof.Proof.Gen.Kernel
public import Idealize.ShloMosaic.PureOps.BitExact

@[expose] public section

set_option maxRecDepth 65536
set_option backward.isDefEq.respectTransparency.types false

noncomputable section

namespace Cert.Kernel

open Idealize.ShloMosaic Idealize.ShloMosaic.TcCoe Idealize.SL.Sem

attribute [local instance] Cert.Kernel.Gen.facts

/-- The two programs call the same kernel body. -/
theorem bodies_same : defs₀ (F := Bits) = Cert.KernelIdeal.defs₀ := by
  unfold defs₀ Cert.KernelIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_same : defs (F := Bits) = Cert.KernelIdeal.defs := congrArg (Pipeline.defs _) bodies_same

/-- Their main functions are the same. -/
theorem main_same : main (F := Bits) = Cert.KernelIdeal.main := rfl

/-- The printed kernel at bit patterns: every run ends, the two argument arrays as launched and every counter zero. -/
theorem run_frame (m : (ℓ : Loc nD τ sig) → Buf (Elt Bits) ℓ) (g : Dev nD → PrngReg) :
    θ_run (defs (F := Bits)) (onTc (τ := τ) (main (F := Bits))) ⟨m, fun _ => 0, g⟩
      (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  have h := Cert.KernelIdeal.Halves.run_all (F := Bits) m g
  rw [← main_same, ← defs_same] at h
  exact (θ_run _ _ _).mono (fun _ hr => ⟨fun c => ⟨(hr.1 c).1, (hr.1 c).2.1⟩, hr.2⟩) h

end Cert.Kernel

end
-- ==== Proof.Value.Norm.lean ====
/-
  The arithmetic of the two programs on extended reals, and what each result holds at an index.

  Both divide a product of a scale and an element by the root of the row's mean square plus a small positive
  constant: the reference literally, the kernel by multiplying with the reciprocal root. The mean square of a row is
  never negative, so the root is taken of a positive number, and there the two agree, at infinity too.
-/
module

public import proofs.«01_k».proof.Proof.KernelIdeal.Region
public import proofs.«01_k».proof.Proof.Gen.ReferenceIdeal.Run
public import Idealize.ShloMosaic.Lib.Pointwise

@[expose] public section

noncomputable section

namespace Cert.Norm

open Idealize.ShloMosaic

/-! ## Extended reals -/

/-- The row length as a number: what the means are divided by. -/
theorem width_eq : Ideal.ofBits .f32 0x44000000#32 = ((512 : ℝ) : EReal) := by
  simp [Ideal.ofBits, Ideal.ieee]
  rw [← EReal.coe_mul]; norm_num

/-- The constant added under the root is positive. -/
theorem eps_pos : (0 : EReal) < Ideal.ofBits .f32 0x3727C5AC#32 := by
  simp [Ideal.ofBits, Ideal.ieee]
  rw [← EReal.coe_mul]
  exact_mod_cast (by positivity)

/-- A square is not negative. -/
theorem sq_nonneg' (a : EReal) : 0 ≤ a * a := by
  rcases le_total 0 a with h | h
  · exact mul_nonneg h h
  · have := EReal.neg_nonneg.mpr h
    rw [← neg_mul_neg]; exact mul_nonneg this this

/-- Below a root whose argument is positive, dividing is multiplying by the reciprocal root. -/
theorem div_sqrt {y : EReal} (hy : 0 < y) (a : EReal) : Ideal.div a (Ideal.sqrt y) = a * Ideal.rsqrt y := by
  induction y with
  | bot => exact absurd hy (by simp)
  | top => simp [Ideal.div]
  | coe r =>
    have hr : 0 < r := by exact_mod_cast hy
    have hs : 0 < Real.sqrt r := Real.sqrt_pos.mpr hr
    rw [Ideal.sqrt_coe, Ideal.rsqrt_coe, if_neg hr.not_gt, if_neg hr.not_gt, if_neg hr.ne', Ideal.div_coe hs.ne', one_div]

/-- A sum of squares over the row length, plus the constant, is positive. -/
theorem mean_pos {s : EReal} (hs : 0 ≤ s) :
    0 < Ideal.div s (Ideal.ofBits .f32 0x44000000#32) + Ideal.ofBits .f32 0x3727C5AC#32 := by
  rw [width_eq, Ideal.div_coe (by norm_num)]
  have h : 0 ≤ s * ((1 / 512 : ℝ) : EReal) := mul_nonneg hs (by exact_mod_cast (by norm_num : (0 : ℝ) ≤ 1 / 512))
  exact lt_of_lt_of_le eps_pos (le_add_of_nonneg_left h)

/-- One element of the result: the element `a` of a row whose squares add to `s`, scaled by `b`. -/
def scaled (a b s : EReal) : EReal :=
  a * b * Ideal.rsqrt (Ideal.div s (Ideal.ofBits .f32 0x44000000#32) + Ideal.ofBits .f32 0x3727C5AC#32)

/-- The squares of row `r` added up. -/
def rowSq {n k : Nat} (X : (⟨2, ![n, k]⟩ : Shape).Idx → EReal) (r : Fin n) : EReal := ∑ l : Fin k, X (ix2 r l) * X (ix2 r l)

theorem rowSq_nonneg {n k : Nat} (X : (⟨2, ![n, k]⟩ : Shape).Idx → EReal) (r : Fin n) : 0 ≤ rowSq X r :=
  Finset.sum_nonneg fun _ _ => sq_nonneg' _

/-! ## The reference at an index -/

section Reference
open Cert.ReferenceIdeal Cert.ReferenceIdeal.Gen

/-- The reference's result from its two arguments. -/
def whole (X : FVec Ideal S1024x512 .f32) (G : FVec Ideal S512 .f32) : FVec Ideal S1024x512 .f32 :=
  Host.divf (mulf (broadcastInDim S1024x512 ![0, 1] bcast_S1x512_S1024x512_0_1 (broadcastInDim S1x512 ![1] bcast_S512_S1x512_1 G)) X)
    (broadcastInDim S1024x512 ![0, 1] bcast_S1024x1_S1024x512_0_1
      (Host.sqrt (addf
        (Host.divf (broadcastInDim S1024x1 ![0] bcast_S1024_S1024x1_0
            (Host.reduceAdd (mulf X X) (constant S_ .f32 0x00000000#32) reducesTo_S1024x512_S1024_d1 h_S_))
          (broadcastInDim S1024x1 ![] bcast_S_S1024x1 (constant S_ .f32 0x44000000#32)))
        (broadcastInDim S1024x1 ![] bcast_S_S1024x1 (constant S_ .f32 0x3727C5AC#32)))))

theorem whole_apply (X : FVec Ideal S1024x512 .f32) (G : FVec Ideal S512 .f32) (r : Fin 1024) (l : Fin 512) :
    whole X G (ix2 r l) = scaled (X (ix2 r l)) (G (ix1 l)) (rowSq X r) := by
  unfold scaled
  rw [← div_sqrt (mean_pos (rowSq_nonneg X r)), mul_comm (X _)]
  pointwise [whole, rowSq]

end Reference

/-! ## The kernel at an index -/

section Kernel
open Cert.KernelIdeal Cert.KernelIdeal.Gen Cert.KernelIdeal.Halves

theorem outBlk_apply (x : Dev nD → Vec Ideal S512x256 .f32) (g : Dev nD → Vec Ideal S1x256 .f32) (c : Dev nD)
    (r : Fin 512) (l : Fin 256) :
    outBlk x g c (ix2 r l) = scaled (x c (ix2 r l)) (g c (ix2 0 l)) (rowSq (x c) r + rowSq (x (nbr c)) r) := by
  pointwise [outBlk, sums, k0_pay1, k0_pay2, k0_pay3, scaled, rowSq]

end Kernel

end Cert.Norm

end
-- ==== Proof.Value.Blocks.lean ====
/-
  The devices' result blocks put together: device `c`'s is block (c / 2, c % 2) of the reference's result, when the
  devices hold the blocks of the reference's arguments.

  A row of the whole array lies half on each of two devices of a mesh row, so its squares add up to the two partial
  sums, in either order.
-/
module

public import proofs.«01_k».proof.Proof.Value.Norm
public import Idealize.ShloMosaic.Lib.Layout

@[expose] public section

noncomputable section

namespace Cert.Norm

open Idealize.ShloMosaic Idealize.ShloMosaic.TcCoe Idealize.SL.Sem
open Cert.KernelIdeal Cert.KernelIdeal.Gen Cert.KernelIdeal.Halves

/-- Where row `r` and column `l` of device `c`'s block lie in the whole array. -/
def row (c : Dev nD) (r : Fin 512) : Fin 1024 := ⟨c.val / 2 * 512 + r.val, by have : c.val < 4 := c.isLt; omega⟩
def col (c : Dev nD) (l : Fin 256) : Fin 512 := ⟨c.val % 2 * 256 + l.val, by omega⟩

/-- Device `c`'s block of a whole array, and of the whole scales. -/
abbrev part (c : Dev nD) (X : (⟨2, ![1024, 512]⟩ : Shape).Idx → EReal) : (⟨2, ![512, 256]⟩ : Shape).Idx → EReal :=
  Layout.blockN ⟨2, ![512, 256]⟩ ⟨2, ![1024, 512]⟩ (Layout.meshBlock [2, 2] ![[0], [1]] c) X
abbrev partScale (c : Dev nD) (G : (⟨1, ![512]⟩ : Shape).Idx → EReal) : (⟨1, ![256]⟩ : Shape).Idx → EReal :=
  Layout.blockN ⟨1, ![256]⟩ ⟨1, ![512]⟩ (Layout.meshBlock [2, 2] ![[1]] c) G

theorem part_apply (c : Dev nD) (X : (⟨2, ![1024, 512]⟩ : Shape).Idx → EReal) (r : Fin 512) (l : Fin 256) :
    part c X (ix2 r l) = X (ix2 (row c r) (col c l)) := by
  have hc : c.val < 4 := c.isLt
  refine congrArg X (funext fun b => Fin.ext ?_)
  rw [Layout.TilesN.idx_val]
  match b with
  | 0 => show (c.val / 2 % 2 * 1 + 0) * 512 + r.val = c.val / 2 * 512 + r.val; omega
  | 1 => show (c.val / 1 % 2 * 1 + 0) * 256 + l.val = c.val % 2 * 256 + l.val; omega

theorem partScale_apply (c : Dev nD) (G : (⟨1, ![512]⟩ : Shape).Idx → EReal) (l : Fin 256) :
    partScale c G (ix1 l) = G (ix1 (col c l)) := by
  refine congrArg G (funext fun b => Fin.ext ?_)
  rw [Layout.TilesN.idx_val]
  match b with
  | 0 => show (c.val / 1 % 2 * 1 + 0) * 256 + l.val = c.val % 2 * 256 + l.val; omega

/-- The neighbour holds the same rows, and the other columns. -/
theorem row_nbr (c : Dev nD) (r : Fin 512) : row (nbr c) r = row c r := by
  refine Fin.ext ?_
  show (2 * (c.val / 2) + 1 - c.val % 2) / 2 * 512 + r.val = c.val / 2 * 512 + r.val
  omega

/-- A sum over the 512 columns is a sum over the columns of a device and one over those of its neighbour. -/
theorem sum_cols (f : Fin 512 → EReal) (c : Dev nD) : ∑ l, f l = ∑ l, f (col c l) + ∑ l, f (col (nbr c) l) := by
  have lo (d : Dev nD) (h : d.val % 2 = 0) (l : Fin 256) : col d l = Fin.castAdd 256 l :=
    Fin.ext (by show d.val % 2 * 256 + l.val = l.val; omega)
  have hi (d : Dev nD) (h : d.val % 2 = 1) (l : Fin 256) : col d l = Fin.natAdd 256 l :=
    Fin.ext (by show d.val % 2 * 256 + l.val = 256 + l.val; omega)
  have hn : (nbr c).val % 2 = 1 - c.val % 2 := by
    show (2 * (c.val / 2) + 1 - c.val % 2) % 2 = _; omega
  rw [show ∑ l, f l = ∑ l : Fin 256, f (Fin.castAdd 256 l) + ∑ l : Fin 256, f (Fin.natAdd 256 l) from Fin.sum_univ_add (a := 256) (b := 256) f]
  rcases Nat.mod_two_eq_zero_or_one c.val with h | h
  · simp only [lo c h, hi (nbr c) (by omega)]
  · simp only [hi c h, lo (nbr c) (by omega)]
    exact add_comm _ _

/-- The squares of a whole row are those of its two halves. -/
theorem rowSq_halves (X : (⟨2, ![1024, 512]⟩ : Shape).Idx → EReal) (c : Dev nD) (r : Fin 512) :
    rowSq X (row c r) = rowSq (part c X) r + rowSq (part (nbr c) X) r := by
  unfold rowSq
  simp only [part_apply, row_nbr]
  exact sum_cols (fun l => X (ix2 (row c r) l) * X (ix2 (row c r) l)) c

/-- Device `c`'s result block is its block of the reference's result. -/
theorem outBlk_eq (X : FVec Ideal ReferenceIdeal.S1024x512 .f32) (G : FVec Ideal ReferenceIdeal.S512 .f32)
    (x : Dev nD → Vec Ideal S512x256 .f32) (g : Dev nD → Vec Ideal S1x256 .f32)
    (hx : ∀ c, x c = part c X) (hg : ∀ c l, g c (ix2 0 l) = partScale c G (ix1 l)) (c : Dev nD) :
    outBlk x g c = part c (whole X G) := by
  funext i
  obtain ⟨r, l, rfl⟩ : ∃ r l, i = ix2 r l := ⟨i 0, i 1, funext fun a => by match a with | 0 => rfl | 1 => rfl⟩
  rw [outBlk_apply, part_apply, whole_apply, rowSq_halves, hg, hx, hx, part_apply, partScale_apply]

variable (m : (ℓ : Loc nD τ sig) → Buf (Elt Ideal) ℓ)

/-- The kernel finds the devices' blocks as launched, and their scales laid as one row. -/
theorem xs_eq (c : Dev nD) : xs m c = m ((c : Thread nD τ).loc main_arg0) := V_main_arg0 m c
theorem gs_eq (c : Dev nD) (l : Fin 256) : gs m c (ix2 0 l) = m ((c : Thread nD τ).loc main_arg1) (ix1 l) := by
  have h : gs m c = shapeCast S1x256 (m ((c : Thread nD τ).loc main_arg1)) shapeCasts_S256_S1x256 := by
    unfold gs entry
    after_results
    rfl
  rw [h]
  pointwise

/-- The result on device `c`, from arguments that are the blocks of the reference's. -/
theorem res_eq (X : FVec Ideal ReferenceIdeal.S1024x512 .f32) (G : FVec Ideal ReferenceIdeal.S512 .f32)
    (hX : ∀ c : Dev nD, m ((c : Thread nD τ).loc main_arg0) = part c X)
    (hG : ∀ c : Dev nD, m ((c : Thread nD τ).loc main_arg1) = partScale c G) (c : Dev nD) :
    res m c = part c (whole X G) :=
  outBlk_eq X G (xs m) (gs m) (fun c => (xs_eq m c).trans (hX c)) (fun c l => by rw [gs_eq, hG]) c

end Cert.Norm

end
-- ==== Proof.lean ====
/-
  The five claims, put together from the run of the kernel (Proof/KernelIdeal), its printed twin (Proof/Kernel), the run
  of the reference and the arithmetic that equates the two results (Proof/Value).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Same
public import proofs.«01_k».proof.Proof.Value.Blocks

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The printed kernel ends with its arguments unchanged and every counter at zero. -/
theorem frame_kernel : Cert.quiescent_Kernel := fun m g _ => Cert.Kernel.run_frame m g

/-- So does the kernel on extended reals. -/
theorem frame_ideal : Cert.quiescent_KernelIdeal := fun m g _ =>
  (θ_run _ _ _).mono (fun _ hr => ⟨fun c => ⟨(hr.1 c).1, (hr.1 c).2.1⟩, hr.2⟩) (Cert.KernelIdeal.Halves.run_all m g)

/-- So does the reference, which has no counters. -/
theorem frame_reference : Cert.quiescent_ReferenceIdeal := fun m g _ =>
  (θ_run _ _ _).mono (fun r hr => ⟨fun c => (hr c).2, sem_eq_zero_of_no_sems rfl r.2⟩) (Cert.ReferenceIdeal.Value.run m g)

/-- Launched on the blocks of the reference's arguments, the devices end with the blocks of the reference's result. -/
theorem value : Cert.algebraic_KernelIdeal_ReferenceIdeal := fun m g m' g' _ hargs =>
  ⟨Cert.Norm.whole (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run _ _ _).mono (fun _ hr c =>
        ⟨(hr.1 c).2.2.trans (Cert.Norm.res_eq m _ _ (fun c => (hargs c).1) (fun c => (hargs c).2) c), (hr.1 c).1, (hr.1 c).2.1⟩)
      (Cert.KernelIdeal.Halves.run_all m g),
    (θ_run _ _ _).mono (fun _ hr => hr 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
